-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x261888x2 : Shape := ⟨3, ![2, 261888, 2]⟩
abbrev S2x261888x4 : Shape := ⟨3, ![2, 261888, 4]⟩
abbrev S2x261888x1 : Shape := ⟨3, ![2, 261888, 1]⟩
abbrev S2x261888 : Shape := ⟨2, ![2, 261888]⟩
abbrev S2x6000 : Shape := ⟨2, ![2, 6000]⟩
abbrev S2x6000x1 : Shape := ⟨3, ![2, 6000, 1]⟩
abbrev S_ : Shape := ⟨0, ![]⟩
abbrev S1 : Shape := ⟨1, ![1]⟩
abbrev S1x1x1 : Shape := ⟨3, ![1, 1, 1]⟩
abbrev S2x6000x4 : Shape := ⟨3, ![2, 6000, 4]⟩
abbrev S2x144 : Shape := ⟨2, ![2, 144]⟩
abbrev S2x6144 : Shape := ⟨2, ![2, 6144]⟩
abbrev S2x8x768 : Shape := ⟨3, ![2, 8, 768]⟩
abbrev S2x144x4 : Shape := ⟨3, ![2, 144, 4]⟩
abbrev S2x6144x4 : Shape := ⟨3, ![2, 6144, 4]⟩
abbrev S2x4x6144 : Shape := ⟨3, ![2, 4, 6144]⟩
abbrev S2x4x8x768 : Shape := ⟨4, ![2, 4, 8, 768]⟩
abbrev S2x1024x128 : Shape := ⟨3, ![2, 1024, 128]⟩
abbrev S1x8x768 : Shape := ⟨3, ![1, 8, 768]⟩
abbrev S1x4x8x768 : Shape := ⟨4, ![1, 4, 8, 768]⟩
abbrev S1x1024x128 : Shape := ⟨3, ![1, 1024, 128]⟩
abbrev S8x768 : Shape := ⟨2, ![8, 768]⟩
abbrev S1x1x8x768 : Shape := ⟨4, ![1, 1, 8, 768]⟩
abbrev S1x128 : Shape := ⟨2, ![1, 128]⟩
abbrev S1x1x128 : Shape := ⟨3, ![1, 1, 128]⟩
abbrev S2x1000x4 : Shape := ⟨3, ![2, 1000, 4]⟩

abbrev nBuf : Space → Nat
  | .hbm => 73
  | .vmem => 10
  | .smem => 0
  | _ => 0

abbrev bufTy : (tb : Table) → Fin (tcTables nBuf tb) → BufTy
  | .hbm, ⟨0, _⟩ => ⟨S2x261888x2, .f32⟩
  | .hbm, ⟨1, _⟩ => ⟨S2x261888x4, .f32⟩
  | .hbm, ⟨2, _⟩ => ⟨S2x261888x4, .f32⟩
  | .hbm, ⟨3, _⟩ => ⟨S2x261888x1, .f32⟩
  | .hbm, ⟨4, _⟩ => ⟨S2x261888, .f32⟩
  | .hbm, ⟨5, _⟩ => ⟨S2x6000, .f32⟩
  | .hbm, ⟨6, _⟩ => ⟨S2x6000, .i32⟩
  | .hbm, ⟨7, _⟩ => ⟨S2x6000x1, .i32⟩
  | .hbm, ⟨8, _⟩ => ⟨S_, .i32⟩
  | .hbm, ⟨9, _⟩ => ⟨S2x6000x1, .i32⟩
  | .hbm, ⟨10, _⟩ => ⟨S2x6000x1, .i1⟩
  | .hbm, ⟨11, _⟩ => ⟨S_, .i32⟩
  | .hbm, ⟨12, _⟩ => ⟨S2x6000x1, .i32⟩
  | .hbm, ⟨13, _⟩ => ⟨S2x6000x1, .i32⟩
  | .hbm, ⟨14, _⟩ => ⟨S2x6000x1, .i32⟩
  | .hbm, ⟨15, _⟩ => ⟨S1, .i32⟩
  | .hbm, ⟨16, _⟩ => ⟨S_, .i32⟩
  | .hbm, ⟨17, _⟩ => ⟨S2x6000x1, .i32⟩
  | .hbm, ⟨18, _⟩ => ⟨S2x6000x1, .i1⟩
  | .hbm, ⟨19, _⟩ => ⟨S1x1x1, .i32⟩
  | .hbm, ⟨20, _⟩ => ⟨S2x6000x1, .i32⟩
  | .hbm, ⟨21, _⟩ => ⟨S2x6000x1, .i1⟩
  | .hbm, ⟨22, _⟩ => ⟨S2x6000x1, .i1⟩
  | .hbm, ⟨23, _⟩ => ⟨S_, .i1⟩
  | .hbm, ⟨24, _⟩ => ⟨S2x6000, .i1⟩
  | .hbm, ⟨25, _⟩ => ⟨S2x6000x4, .f32⟩
  | .hbm, ⟨26, _⟩ => ⟨S2x6000x4, .i1⟩
  | .hbm, ⟨27, _⟩ => ⟨S_, .f32⟩
  | .hbm, ⟨28, _⟩ => ⟨S2x6000x4, .f32⟩
  | .hbm, ⟨29, _⟩ => ⟨S2x6000x4, .f32⟩
  | .hbm, ⟨30, _⟩ => ⟨S2x6000x1, .i32⟩
  | .hbm, ⟨31, _⟩ => ⟨S_, .i32⟩
  | .hbm, ⟨32, _⟩ => ⟨S2x6000x1, .i32⟩
  | .hbm, ⟨33, _⟩ => ⟨S2x6000x1, .i1⟩
  | .hbm, ⟨34, _⟩ => ⟨S_, .i32⟩
  | .hbm, ⟨35, _⟩ => ⟨S2x6000x1, .i32⟩
  | .hbm, ⟨36, _⟩ => ⟨S2x6000x1, .i32⟩
  | .hbm, ⟨37, _⟩ => ⟨S2x6000x1, .i32⟩
  | .hbm, ⟨38, _⟩ => ⟨S1, .i32⟩
  | .hbm, ⟨39, _⟩ => ⟨S_, .i32⟩
  | .hbm, ⟨40, _⟩ => ⟨S2x6000x1, .i32⟩
  | .hbm, ⟨41, _⟩ => ⟨S2x6000x1, .i1⟩
  | .hbm, ⟨42, _⟩ => ⟨S1x1x1, .i32⟩
  | .hbm, ⟨43, _⟩ => ⟨S2x6000x1, .i32⟩
  | .hbm, ⟨44, _⟩ => ⟨S2x6000x1, .i1⟩
  | .hbm, ⟨45, _⟩ => ⟨S2x6000x1, .i1⟩
  | .hbm, ⟨46, _⟩ => ⟨S_, .i1⟩
  | .hbm, ⟨47, _⟩ => ⟨S2x6000, .i1⟩
  | .hbm, ⟨48, _⟩ => ⟨S2x6000x4, .f32⟩
  | .hbm, ⟨49, _⟩ => ⟨S2x6000x4, .i1⟩
  | .hbm, ⟨50, _⟩ => ⟨S_, .f32⟩
  | .hbm, ⟨51, _⟩ => ⟨S2x6000x4, .f32⟩
  | .hbm, ⟨52, _⟩ => ⟨S2x6000x4, .f32⟩
  | .hbm, ⟨53, _⟩ => ⟨S_, .f32⟩
  | .hbm, ⟨54, _⟩ => ⟨S2x144, .f32⟩
  | .hbm, ⟨55, _⟩ => ⟨S2x6144, .f32⟩
  | .hbm, ⟨56, _⟩ => ⟨S2x8x768, .f32⟩
  | .hbm, ⟨57, _⟩ => ⟨S_, .i32⟩
  | .hbm, ⟨58, _⟩ => ⟨S2x144, .i32⟩
  | .hbm, ⟨59, _⟩ => ⟨S2x6144, .i32⟩
  | .hbm, ⟨60, _⟩ => ⟨S2x8x768, .i32⟩
  | .hbm, ⟨61, _⟩ => ⟨S_, .f32⟩
  | .hbm, ⟨62, _⟩ => ⟨S2x144x4, .f32⟩
  | .hbm, ⟨63, _⟩ => ⟨S2x6144x4, .f32⟩
  | .hbm, ⟨64, _⟩ => ⟨S2x4x6144, .f32⟩
  | .hbm, ⟨65, _⟩ => ⟨S2x4x8x768, .f32⟩
  | .hbm, ⟨66, _⟩ => ⟨S_, .f32⟩
  | .hbm, ⟨67, _⟩ => ⟨S2x144x4, .f32⟩
  | .hbm, ⟨68, _⟩ => ⟨S2x6144x4, .f32⟩
  | .hbm, ⟨69, _⟩ => ⟨S2x4x6144, .f32⟩
  | .hbm, ⟨70, _⟩ => ⟨S2x4x8x768, .f32⟩
  | .hbm, ⟨71, _⟩ => ⟨S2x1024x128, .f32⟩
  | .hbm, ⟨72, _⟩ => ⟨S2x1000x4, .f32⟩
  | .local _ .vmem, ⟨0, _⟩ => ⟨S1x8x768, .f32⟩
  | .local _ .vmem, ⟨1, _⟩ => ⟨S1x8x768, .f32⟩
  | .local _ .vmem, ⟨2, _⟩ => ⟨S1x8x768, .i32⟩
  | .local _ .vmem, ⟨3, _⟩ => ⟨S1x8x768, .i32⟩
  | .local _ .vmem, ⟨4, _⟩ => ⟨S1x4x8x768, .f32⟩
  | .local _ .vmem, ⟨5, _⟩ => ⟨S1x4x8x768, .f32⟩
  | .local _ .vmem, ⟨6, _⟩ => ⟨S1x4x8x768, .f32⟩
  | .local _ .vmem, ⟨7, _⟩ => ⟨S1x4x8x768, .f32⟩
  | .local _ .vmem, ⟨8, _⟩ => ⟨S1x1024x128, .f32⟩
  | .local _ .vmem, ⟨9, _⟩ => ⟨S1x1024x128, .f32⟩
  | _, _ => ⟨S2x261888x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_values : Ref sig .tc := ⟨.hbm, 5, rfl⟩
abbrev main_indices : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v3 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_c_2 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_c_3 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v5 : Ref sig .tc := ⟨.hbm, 52, rfl⟩
abbrev main_cst : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_c : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_cst_0 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_1 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_50 : BitVec 32 := 0#32
  let c1000_i32 : BitVec 32 := 1000#32
  let v88 : BitVec 32 := Scalar.addi c0_i32_50 c1000_i32
  let c1_i32_51 : BitVec 32 := 1#32
  ⟨c0_i32_50, v88, c1_i32_51⟩
def k0_off1 (k0_t1 : Fin k0_t1_loop.trips) : Fin 3 → Nat :=
  let c0_61 : Index := 0#32
  let c0_i32_50 : BitVec 32 := 0#32
  let c1_i32_51 : BitVec 32 := 1#32
  let arg6 : BitVec 32 := Scf.iv c0_i32_50 c1_i32_51 k0_t1
  let v150 : Index := Scalar.indexCast arg6
  let c0_62 : Index := 0#32
  ![0, v150.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x261888x2 : Shape := ⟨3, ![2, 261888, 2]⟩
abbrev S2x261888x4 : Shape := ⟨3, ![2, 261888, 4]⟩
abbrev S4 : Shape := ⟨1, ![4]⟩
abbrev S2x261888x1 : Shape := ⟨3, ![2, 261888, 1]⟩
abbrev S2x261888 : Shape := ⟨2, ![2, 261888]⟩
abbrev S1x1x4 : Shape := ⟨3, ![1, 1, 4]⟩
abbrev S2x6000 : Shape := ⟨2, ![2, 6000]⟩
abbrev S2x6000x1 : Shape := ⟨3, ![2, 6000, 1]⟩
abbrev S_ : Shape := ⟨0, ![]⟩
abbrev S1 : Shape := ⟨1, ![1]⟩
abbrev S1x1x1 : Shape := ⟨3, ![1, 1, 1]⟩
abbrev S2x6000x4 : Shape := ⟨3, ![2, 6000, 4]⟩
abbrev S1000x2x1 : Shape := ⟨3, ![1000, 2, 1]⟩
abbrev S2 : Shape := ⟨1, ![2]⟩
abbrev S2x1 : Shape := ⟨2, ![2, 1]⟩
abbrev S2x1x1 : Shape := ⟨3, ![2, 1, 1]⟩
abbrev S2x1x4 : Shape := ⟨3, ![2, 1, 4]⟩
abbrev S6000 : Shape := ⟨1, ![6000]⟩
abbrev S1x6000 : Shape := ⟨2, ![1, 6000]⟩
abbrev S1x2x1 : Shape := ⟨3, ![1, 2, 1]⟩
abbrev S1000x2 : Shape := ⟨2, ![1000, 2]⟩
abbrev S2x1000 : Shape := ⟨2, ![2, 1000]⟩
abbrev S2x1000x1 : Shape := ⟨3, ![2, 1000, 1]⟩
abbrev S2x1000x4 : Shape := ⟨3, ![2, 1000, 4]⟩

abbrev nBuf : Space → Nat
  | .hbm => 298
  | .vmem => 0
  | .smem => 0
  | _ => 0

abbrev hbmTy0_0 (i : Nat) : BufTy := match i % 128 with
  | 0 => ⟨S2x261888x2, .f32⟩
  | 1 => ⟨S2x261888x4, .f32⟩
  | 2 => ⟨S2x261888x4, .f32⟩
  | 3 => ⟨S4, .f32⟩
  | 4 => ⟨S2x261888x1, .f32⟩
  | 5 => ⟨S2x261888, .f32⟩
  | 6 => ⟨S1x1x4, .f32⟩
  | 7 => ⟨S2x261888x4, .f32⟩
  | 8 => ⟨S2x261888x4, .f32⟩
  | 9 => ⟨S2x6000, .f32⟩
  | 10 => ⟨S2x6000, .i32⟩
  | 11 => ⟨S2x6000x1, .i32⟩
  | 12 => ⟨S_, .i32⟩
  | 13 => ⟨S2x6000x1, .i32⟩
  | 14 => ⟨S2x6000x1, .i1⟩
  | 15 => ⟨S_, .i32⟩
  | 16 => ⟨S2x6000x1, .i32⟩
  | 17 => ⟨S2x6000x1, .i32⟩
  | 18 => ⟨S2x6000x1, .i32⟩
  | 19 => ⟨S1, .i32⟩
  | 20 => ⟨S_, .i32⟩
  | 21 => ⟨S2x6000x1, .i32⟩
  | 22 => ⟨S2x6000x1, .i1⟩
  | 23 => ⟨S1x1x1, .i32⟩
  | 24 => ⟨S2x6000x1, .i32⟩
  | 25 => ⟨S2x6000x1, .i1⟩
  | 26 => ⟨S2x6000x1, .i1⟩
  | 27 => ⟨S_, .i1⟩
  | 28 => ⟨S2x6000, .i1⟩
  | 29 => ⟨S2x6000x4, .f32⟩
  | 30 => ⟨S2x6000x4, .i1⟩
  | 31 => ⟨S_, .f32⟩
  | 32 => ⟨S2x6000x4, .f32⟩
  | 33 => ⟨S2x6000x4, .f32⟩
  | 34 => ⟨S2x6000x1, .i32⟩
  | 35 => ⟨S_, .i32⟩
  | 36 => ⟨S2x6000x1, .i32⟩
  | 37 => ⟨S2x6000x1, .i1⟩
  | 38 => ⟨S_, .i32⟩
  | 39 => ⟨S2x6000x1, .i32⟩
  | 40 => ⟨S2x6000x1, .i32⟩
  | 41 => ⟨S2x6000x1, .i32⟩
  | 42 => ⟨S1, .i32⟩
  | 43 => ⟨S_, .i32⟩
  | 44 => ⟨S2x6000x1, .i32⟩
  | 45 => ⟨S2x6000x1, .i1⟩
  | 46 => ⟨S1x1x1, .i32⟩
  | 47 => ⟨S2x6000x1, .i32⟩
  | 48 => ⟨S2x6000x1, .i1⟩
  | 49 => ⟨S2x6000x1, .i1⟩
  | 50 => ⟨S_, .i1⟩
  | 51 => ⟨S2x6000, .i1⟩
  | 52 => ⟨S2x6000x4, .f32⟩
  | 53 => ⟨S2x6000x4, .i1⟩
  | 54 => ⟨S_, .f32⟩
  | 55 => ⟨S2x6000x4, .f32⟩
  | 56 => ⟨S2x6000x4, .f32⟩
  | 57 => ⟨S2x6000x1, .f32⟩
  | 58 => ⟨S2x6000, .f32⟩
  | 59 => ⟨S2x6000x1, .f32⟩
  | 60 => ⟨S2x6000, .f32⟩
  | 61 => ⟨S2x6000, .f32⟩
  | 62 => ⟨S2x6000x1, .f32⟩
  | 63 => ⟨S2x6000, .f32⟩
  | 64 => ⟨S2x6000x1, .f32⟩
  | 65 => ⟨S2x6000, .f32⟩
  | 66 => ⟨S2x6000, .f32⟩
  | 67 => ⟨S2x6000x1, .f32⟩
  | 68 => ⟨S2x6000, .f32⟩
  | 69 => ⟨S_, .f32⟩
  | 70 => ⟨S2x6000, .f32⟩
  | 71 => ⟨S2x6000, .f32⟩
  | 72 => ⟨S2x6000, .f32⟩
  | 73 => ⟨S2x6000x1, .f32⟩
  | 74 => ⟨S2x6000, .f32⟩
  | 75 => ⟨S_, .f32⟩
  | 76 => ⟨S2x6000, .f32⟩
  | 77 => ⟨S2x6000, .f32⟩
  | 78 => ⟨S2x6000, .f32⟩
  | 79 => ⟨S2x6000x1, .f32⟩
  | 80 => ⟨S2x6000, .f32⟩
  | 81 => ⟨S2x6000, .f32⟩
  | 82 => ⟨S2x6000, .f32⟩
  | 83 => ⟨S2x6000x1, .f32⟩
  | 84 => ⟨S2x6000, .f32⟩
  | 85 => ⟨S2x6000, .f32⟩
  | 86 => ⟨S2x6000, .f32⟩
  | 87 => ⟨S2x6000x1, .f32⟩
  | 88 => ⟨S2x6000, .f32⟩
  | 89 => ⟨S2x6000, .f32⟩
  | 90 => ⟨S2x6000, .f32⟩
  | 91 => ⟨S2x6000x1, .f32⟩
  | 92 => ⟨S2x6000, .f32⟩
  | 93 => ⟨S2x6000, .f32⟩
  | 94 => ⟨S2x6000, .f32⟩
  | 95 => ⟨S_, .f32⟩
  | 96 => ⟨S2x6000, .f32⟩
  | 97 => ⟨S2x6000, .f32⟩
  | 98 => ⟨S2x6000, .f32⟩
  | 99 => ⟨S_, .f32⟩
  | 100 => ⟨S2x6000, .f32⟩
  | 101 => ⟨S2x6000, .f32⟩
  | 102 => ⟨S2x6000, .f32⟩
  | 103 => ⟨S2x6000, .f32⟩
  | 104 => ⟨S2x6000, .f32⟩
  | 105 => ⟨S2x6000x1, .f32⟩
  | 106 => ⟨S2x6000x1, .f32⟩
  | 107 => ⟨S2x6000x1, .f32⟩
  | 108 => ⟨S2x6000x1, .f32⟩
  | 109 => ⟨S2x6000x4, .f32⟩
  | 110 => ⟨S_, .f32⟩
  | 111 => ⟨S2x6000x4, .f32⟩
  | 112 => ⟨S2x6000x4, .f32⟩
  | 113 => ⟨S_, .f32⟩
  | 114 => ⟨S2x6000x4, .f32⟩
  | 115 => ⟨S2x6000x4, .f32⟩
  | 116 => ⟨S_, .i32⟩
  | 117 => ⟨S1000x2x1, .i32⟩
  | 118 => ⟨S_, .i1⟩
  | 119 => ⟨S1000x2x1, .i1⟩
  | 120 => ⟨S_, .i32⟩
  | 121 => ⟨S2x6000x4, .f32⟩
  | 122 => ⟨S_, .i32⟩
  | 123 => ⟨S2x6000, .f32⟩
  | 124 => ⟨S1000x2x1, .i32⟩
  | 125 => ⟨S1000x2x1, .i1⟩
  | 126 => ⟨S_, .i32⟩
  | 127 => ⟨S_, .i1⟩
  | _ => ⟨S2x261888x2, .f32⟩

abbrev hbmTy0_1 (i : Nat) : BufTy := match i % 128 with
  | 0 => ⟨S2x6000, .i32⟩
  | 1 => ⟨S_, .f32⟩
  | 2 => ⟨S_, .i32⟩
  | 3 => ⟨S2, .f32⟩
  | 4 => ⟨S2, .i32⟩
  | 5 => ⟨S2x1, .i32⟩
  | 6 => ⟨S_, .i32⟩
  | 7 => ⟨S2x1, .i32⟩
  | 8 => ⟨S2x1, .i1⟩
  | 9 => ⟨S_, .i32⟩
  | 10 => ⟨S2x1, .i32⟩
  | 11 => ⟨S2x1, .i32⟩
  | 12 => ⟨S2x1, .i32⟩
  | 13 => ⟨S2x1x1, .i32⟩
  | 14 => ⟨S1, .i32⟩
  | 15 => ⟨S_, .i32⟩
  | 16 => ⟨S2x1x1, .i32⟩
  | 17 => ⟨S2x1x1, .i1⟩
  | 18 => ⟨S1x1x1, .i32⟩
  | 19 => ⟨S2x1x1, .i32⟩
  | 20 => ⟨S2x1x1, .i1⟩
  | 21 => ⟨S2x1x1, .i1⟩
  | 22 => ⟨S_, .i1⟩
  | 23 => ⟨S2x1, .i1⟩
  | 24 => ⟨S2x1, .f32⟩
  | 25 => ⟨S_, .f32⟩
  | 26 => ⟨S2x1, .f32⟩
  | 27 => ⟨S2x1, .f32⟩
  | 28 => ⟨S_, .f32⟩
  | 29 => ⟨S2x1, .f32⟩
  | 30 => ⟨S2x1, .i1⟩
  | 31 => ⟨S2x1x1, .i32⟩
  | 32 => ⟨S_, .i32⟩
  | 33 => ⟨S2x1x1, .i32⟩
  | 34 => ⟨S2x1x1, .i1⟩
  | 35 => ⟨S_, .i32⟩
  | 36 => ⟨S2x1x1, .i32⟩
  | 37 => ⟨S2x1x1, .i32⟩
  | 38 => ⟨S2x1x1, .i32⟩
  | 39 => ⟨S1, .i32⟩
  | 40 => ⟨S_, .i32⟩
  | 41 => ⟨S2x1x1, .i32⟩
  | 42 => ⟨S2x1x1, .i1⟩
  | 43 => ⟨S1x1x1, .i32⟩
  | 44 => ⟨S2x1x1, .i32⟩
  | 45 => ⟨S2x1x1, .i1⟩
  | 46 => ⟨S2x1x1, .i1⟩
  | 47 => ⟨S_, .i1⟩
  | 48 => ⟨S2x1, .i1⟩
  | 49 => ⟨S2x1x4, .f32⟩
  | 50 => ⟨S2x1x4, .i1⟩
  | 51 => ⟨S_, .f32⟩
  | 52 => ⟨S2x1x4, .f32⟩
  | 53 => ⟨S2x1x4, .f32⟩
  | 54 => ⟨S2x1x1, .f32⟩
  | 55 => ⟨S2x1, .f32⟩
  | 56 => ⟨S2x6000x1, .f32⟩
  | 57 => ⟨S2x6000, .f32⟩
  | 58 => ⟨S2x6000, .f32⟩
  | 59 => ⟨S2x6000, .f32⟩
  | 60 => ⟨S2x1x1, .f32⟩
  | 61 => ⟨S2x1, .f32⟩
  | 62 => ⟨S2x6000x1, .f32⟩
  | 63 => ⟨S2x6000, .f32⟩
  | 64 => ⟨S2x6000, .f32⟩
  | 65 => ⟨S2x6000, .f32⟩
  | 66 => ⟨S2x1x1, .f32⟩
  | 67 => ⟨S2x1, .f32⟩
  | 68 => ⟨S2x6000x1, .f32⟩
  | 69 => ⟨S2x6000, .f32⟩
  | 70 => ⟨S2x6000, .f32⟩
  | 71 => ⟨S2x6000, .f32⟩
  | 72 => ⟨S2x1x1, .f32⟩
  | 73 => ⟨S2x1, .f32⟩
  | 74 => ⟨S2x6000x1, .f32⟩
  | 75 => ⟨S2x6000, .f32⟩
  | 76 => ⟨S2x6000, .f32⟩
  | 77 => ⟨S2x6000, .f32⟩
  | 78 => ⟨S2x6000, .f32⟩
  | 79 => ⟨S_, .f32⟩
  | 80 => ⟨S2x6000, .f32⟩
  | 81 => ⟨S2x6000, .f32⟩
  | 82 => ⟨S2x6000, .f32⟩
  | 83 => ⟨S_, .f32⟩
  | 84 => ⟨S2x6000, .f32⟩
  | 85 => ⟨S2x6000, .f32⟩
  | 86 => ⟨S2x6000, .f32⟩
  | 87 => ⟨S2x1x1, .f32⟩
  | 88 => ⟨S2x1, .f32⟩
  | 89 => ⟨S2x1x1, .f32⟩
  | 90 => ⟨S2x1, .f32⟩
  | 91 => ⟨S2x1, .f32⟩
  | 92 => ⟨S2x1x1, .f32⟩
  | 93 => ⟨S2x1, .f32⟩
  | 94 => ⟨S2x1x1, .f32⟩
  | 95 => ⟨S2x1, .f32⟩
  | 96 => ⟨S2x1, .f32⟩
  | 97 => ⟨S2x1, .f32⟩
  | 98 => ⟨S2x6000x1, .f32⟩
  | 99 => ⟨S2x6000, .f32⟩
  | 100 => ⟨S2x6000x1, .f32⟩
  | 101 => ⟨S2x6000, .f32⟩
  | 102 => ⟨S2x6000, .f32⟩
  | 103 => ⟨S2x6000x1, .f32⟩
  | 104 => ⟨S2x6000, .f32⟩
  | 105 => ⟨S2x6000x1, .f32⟩
  | 106 => ⟨S2x6000, .f32⟩
  | 107 => ⟨S2x6000, .f32⟩
  | 108 => ⟨S2x6000, .f32⟩
  | 109 => ⟨S2x6000, .f32⟩
  | 110 => ⟨S2x6000, .f32⟩
  | 111 => ⟨S2x6000, .f32⟩
  | 112 => ⟨S_, .f32⟩
  | 113 => ⟨S2x6000, .f32⟩
  | 114 => ⟨S2x6000, .f32⟩
  | 115 => ⟨S2x6000, .f32⟩
  | 116 => ⟨S_, .f32⟩
  | 117 => ⟨S2x6000, .f32⟩
  | 118 => ⟨S2x6000, .i1⟩
  | 119 => ⟨S6000, .i32⟩
  | 120 => ⟨S1x6000, .i32⟩
  | 121 => ⟨S2x6000, .i32⟩
  | 122 => ⟨S2x6000, .i32⟩
  | 123 => ⟨S2x6000, .i1⟩
  | 124 => ⟨S2x6000, .i1⟩
  | 125 => ⟨S_, .f32⟩
  | 126 => ⟨S_, .f32⟩
  | 127 => ⟨S2x6000, .f32⟩
  | _ => ⟨S2x261888x2, .f32⟩

abbrev hbmTy0_2 (i : Nat) : BufTy := match i % 128 with
  | 0 => ⟨S2x6000, .f32⟩
  | 1 => ⟨S1x2x1, .i32⟩
  | 2 => ⟨S_, .i32⟩
  | 3 => ⟨S_, .i32⟩
  | 4 => ⟨S1000x2x1, .i32⟩
  | 5 => ⟨S1x2x1, .i1⟩
  | 6 => ⟨S_, .i32⟩
  | 7 => ⟨S_, .i32⟩
  | 8 => ⟨S1000x2x1, .i1⟩
  | 9 => ⟨S_, .i32⟩
  | 10 => ⟨S_, .i32⟩
  | 11 => ⟨S1000x2, .i32⟩
  | 12 => ⟨S2x1000, .i32⟩
  | 13 => ⟨S1000x2, .i1⟩
  | 14 => ⟨S2x1000, .i1⟩
  | 15 => ⟨S2x1000x1, .i32⟩
  | 16 => ⟨S_, .i32⟩
  | 17 => ⟨S2x1000x1, .i32⟩
  | 18 => ⟨S2x1000x1, .i1⟩
  | 19 => ⟨S_, .i32⟩
  | 20 => ⟨S2x1000x1, .i32⟩
  | 21 => ⟨S2x1000x1, .i32⟩
  | 22 => ⟨S2x1000x1, .i32⟩
  | 23 => ⟨S1, .i32⟩
  | 24 => ⟨S_, .i32⟩
  | 25 => ⟨S2x1000x1, .i32⟩
  | 26 => ⟨S2x1000x1, .i1⟩
  | 27 => ⟨S1x1x1, .i32⟩
  | 28 => ⟨S2x1000x1, .i32⟩
  | 29 => ⟨S2x1000x1, .i1⟩
  | 30 => ⟨S2x1000x1, .i1⟩
  | 31 => ⟨S_, .i1⟩
  | 32 => ⟨S2x1000, .i1⟩
  | 33 => ⟨S2x1000x4, .f32⟩
  | 34 => ⟨S2x1000x4, .i1⟩
  | 35 => ⟨S_, .f32⟩
  | 36 => ⟨S2x1000x4, .f32⟩
  | 37 => ⟨S2x1000x4, .f32⟩
  | 38 => ⟨S2x1000x1, .i1⟩
  | 39 => ⟨S2x1000x1, .f32⟩
  | 40 => ⟨S2x1000x4, .f32⟩
  | 41 => ⟨S2x1000x4, .f32⟩
  | _ => ⟨S2x261888x2, .f32⟩

abbrev hbmTy (i : Nat) : BufTy := match i / 128 with
  | 0 => hbmTy0_0 i
  | 1 => hbmTy0_1 i
  | 2 => hbmTy0_2 i
  | _ => ⟨S2x261888x2, .f32⟩

abbrev bufTy : (tb : Table) → Fin (tcTables nBuf tb) → BufTy
  | .hbm, ⟨i, _⟩ => hbmTy i
  | _, _ => ⟨S2x261888x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_c_2 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_c_3 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v6 : Ref sig .tc := ⟨.hbm, 33, rfl⟩
abbrev main_v7 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_c_2 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_c_3 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_cst_0 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_cst_1 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_2 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_3 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_4 : Ref sig .tc := ⟨.hbm, 110, rfl⟩
abbrev main_v58 : Ref sig .tc := ⟨.hbm, 111, rfl⟩
abbrev main_v59 : Ref sig .tc := ⟨.hbm, 112, rfl⟩
abbrev main_cst_5 : Ref sig .tc := ⟨.hbm, 113, rfl⟩
abbrev main_v60 : Ref sig .tc := ⟨.hbm, 114, rfl⟩
abbrev main_v61 : Ref sig .tc := ⟨.hbm, 115, rfl⟩
abbrev main_c : Ref sig .tc := ⟨.hbm, 116, rfl⟩
abbrev main_v62 : Ref sig .tc := ⟨.hbm, 117, rfl⟩
abbrev main_c_6 : Ref sig .tc := ⟨.hbm, 118, rfl⟩
abbrev main_v63 : Ref sig .tc := ⟨.hbm, 119, rfl⟩
abbrev main_c_7 : Ref sig .tc := ⟨.hbm, 120, rfl⟩
abbrev main_v64_0 : Ref sig .tc := ⟨.hbm, 121, rfl⟩
abbrev main_v64_1 : Ref sig .tc := ⟨.hbm, 122, rfl⟩
abbrev main_v64_2 : Ref sig .tc := ⟨.hbm, 123, rfl⟩
abbrev main_v64_3 : Ref sig .tc := ⟨.hbm, 124, rfl⟩
abbrev main_v64_4 : Ref sig .tc := ⟨.hbm, 125, rfl⟩
abbrev main_while0c_c_12 : Ref sig .tc := ⟨.hbm, 126, rfl⟩
abbrev main_while0c_v75 : Ref sig .tc := ⟨.hbm, 127, rfl⟩
abbrev main_while0b_call2_v0 : Ref sig .tc := ⟨.hbm, 128, rfl⟩
abbrev main_while0b_call2_cst : Ref sig .tc := ⟨.hbm, 129, rfl⟩
abbrev main_while0b_call2_c : Ref sig .tc := ⟨.hbm, 130, rfl⟩
abbrev main_while0b_call2_v1_0 : Ref sig .tc := ⟨.hbm, 131, rfl⟩
abbrev main_while0b_v75 : Ref sig .tc := ⟨.hbm, 132, rfl⟩
abbrev main_while0b_v76 : Ref sig .tc := ⟨.hbm, 133, rfl⟩
abbrev main_while0b_call3_c : Ref sig .tc := ⟨.hbm, 134, rfl⟩
abbrev main_while0b_call3_v0 : Ref sig .tc := ⟨.hbm, 135, rfl⟩
abbrev main_while0b_call3_v1 : Ref sig .tc := ⟨.hbm, 136, rfl⟩
abbrev main_while0b_call3_c_0 : Ref sig .tc := ⟨.hbm, 137, rfl⟩
abbrev main_while0b_call3_v2 : Ref sig .tc := ⟨.hbm, 138, rfl⟩
abbrev main_while0b_call3_v3 : Ref sig .tc := ⟨.hbm, 139, rfl⟩
abbrev main_while0b_call3_v4 : Ref sig .tc := ⟨.hbm, 140, rfl⟩
abbrev main_while0b_call3_v5 : Ref sig .tc := ⟨.hbm, 141, rfl⟩
abbrev main_while0b_call3_c_1 : Ref sig .tc := ⟨.hbm, 142, rfl⟩
abbrev main_while0b_call3_c_2 : Ref sig .tc := ⟨.hbm, 143, rfl⟩
abbrev main_while0b_call3_v6 : Ref sig .tc := ⟨.hbm, 144, rfl⟩
abbrev main_while0b_call3_v7 : Ref sig .tc := ⟨.hbm, 145, rfl⟩
abbrev main_while0b_call3_v8 : Ref sig .tc := ⟨.hbm, 146, rfl⟩
abbrev main_while0b_call3_v9 : Ref sig .tc := ⟨.hbm, 147, rfl⟩
abbrev main_while0b_call3_v10 : Ref sig .tc := ⟨.hbm, 148, rfl⟩
abbrev main_while0b_call3_v11 : Ref sig .tc := ⟨.hbm, 149, rfl⟩
abbrev main_while0b_call3_c_3 : Ref sig .tc := ⟨.hbm, 150, rfl⟩
abbrev main_while0b_call3_v12 : Ref sig .tc := ⟨.hbm, 151, rfl⟩
abbrev main_while0b_call3_v13 : Ref sig .tc := ⟨.hbm, 152, rfl⟩
abbrev main_while0b_call3_cst : Ref sig .tc := ⟨.hbm, 153, rfl⟩
abbrev main_while0b_call3_v14 : Ref sig .tc := ⟨.hbm, 154, rfl⟩
abbrev main_while0b_v77 : Ref sig .tc := ⟨.hbm, 155, rfl⟩
abbrev main_while0b_cst_12 : Ref sig .tc := ⟨.hbm, 156, rfl⟩
abbrev main_while0b_v78 : Ref sig .tc := ⟨.hbm, 157, rfl⟩
abbrev main_while0b_v79 : Ref sig .tc := ⟨.hbm, 158, rfl⟩
abbrev main_while0b_v80 : Ref sig .tc := ⟨.hbm, 159, rfl⟩
abbrev main_while0b_call4_c : Ref sig .tc := ⟨.hbm, 160, rfl⟩
abbrev main_while0b_call4_v0 : Ref sig .tc := ⟨.hbm, 161, rfl⟩
abbrev main_while0b_call4_v1 : Ref sig .tc := ⟨.hbm, 162, rfl⟩
abbrev main_while0b_call4_c_0 : Ref sig .tc := ⟨.hbm, 163, rfl⟩
abbrev main_while0b_call4_v2 : Ref sig .tc := ⟨.hbm, 164, rfl⟩
abbrev main_while0b_call4_v3 : Ref sig .tc := ⟨.hbm, 165, rfl⟩
abbrev main_while0b_call4_v4 : Ref sig .tc := ⟨.hbm, 166, rfl⟩
abbrev main_while0b_call4_c_1 : Ref sig .tc := ⟨.hbm, 167, rfl⟩
abbrev main_while0b_call4_c_2 : Ref sig .tc := ⟨.hbm, 168, rfl⟩
abbrev main_while0b_call4_v5 : Ref sig .tc := ⟨.hbm, 169, rfl⟩
abbrev main_while0b_call4_v6 : Ref sig .tc := ⟨.hbm, 170, rfl⟩
abbrev main_while0b_call4_v7 : Ref sig .tc := ⟨.hbm, 171, rfl⟩
abbrev main_while0b_call4_v8 : Ref sig .tc := ⟨.hbm, 172, rfl⟩
abbrev main_while0b_call4_v9 : Ref sig .tc := ⟨.hbm, 173, rfl⟩
abbrev main_while0b_call4_v10 : Ref sig .tc := ⟨.hbm, 174, rfl⟩
abbrev main_while0b_call4_c_3 : Ref sig .tc := ⟨.hbm, 175, rfl⟩
abbrev main_while0b_call4_v11 : Ref sig .tc := ⟨.hbm, 176, rfl⟩
abbrev main_while0b_call4_v12 : Ref sig .tc := ⟨.hbm, 177, rfl⟩
abbrev main_while0b_call4_v13 : Ref sig .tc := ⟨.hbm, 178, rfl⟩
abbrev main_while0b_call4_cst : Ref sig .tc := ⟨.hbm, 179, rfl⟩
abbrev main_while0b_call4_v14 : Ref sig .tc := ⟨.hbm, 180, rfl⟩
abbrev main_while0b_v81 : Ref sig .tc := ⟨.hbm, 181, rfl⟩
abbrev main_while0b_v82 : Ref sig .tc := ⟨.hbm, 182, rfl⟩
abbrev main_while0b_v83 : Ref sig .tc := ⟨.hbm, 183, rfl⟩
abbrev main_while0b_v84 : Ref sig .tc := ⟨.hbm, 184, rfl⟩
abbrev main_while0b_v85 : Ref sig .tc := ⟨.hbm, 185, rfl⟩
abbrev main_while0b_v86 : Ref sig .tc := ⟨.hbm, 186, rfl⟩
abbrev main_while0b_v87 : Ref sig .tc := ⟨.hbm, 187, rfl⟩
abbrev main_while0b_v88 : Ref sig .tc := ⟨.hbm, 188, rfl⟩
abbrev main_while0b_v89 : Ref sig .tc := ⟨.hbm, 189, rfl⟩
abbrev main_while0b_v90 : Ref sig .tc := ⟨.hbm, 190, rfl⟩
abbrev main_while0b_v91 : Ref sig .tc := ⟨.hbm, 191, rfl⟩
abbrev main_while0b_v92 : Ref sig .tc := ⟨.hbm, 192, rfl⟩
abbrev main_while0b_v93 : Ref sig .tc := ⟨.hbm, 193, rfl⟩
abbrev main_while0b_v94 : Ref sig .tc := ⟨.hbm, 194, rfl⟩
abbrev main_while0b_v95 : Ref sig .tc := ⟨.hbm, 195, rfl⟩
abbrev main_while0b_v96 : Ref sig .tc := ⟨.hbm, 196, rfl⟩
abbrev main_while0b_v97 : Ref sig .tc := ⟨.hbm, 197, rfl⟩
abbrev main_while0b_v98 : Ref sig .tc := ⟨.hbm, 198, rfl⟩
abbrev main_while0b_v99 : Ref sig .tc := ⟨.hbm, 199, rfl⟩
abbrev main_while0b_v100 : Ref sig .tc := ⟨.hbm, 200, rfl⟩
abbrev main_while0b_v101 : Ref sig .tc := ⟨.hbm, 201, rfl⟩
abbrev main_while0b_v102 : Ref sig .tc := ⟨.hbm, 202, rfl⟩
abbrev main_while0b_v103 : Ref sig .tc := ⟨.hbm, 203, rfl⟩
abbrev main_while0b_v104 : Ref sig .tc := ⟨.hbm, 204, rfl⟩
abbrev main_while0b_v105 : Ref sig .tc := ⟨.hbm, 205, rfl⟩
abbrev main_while0b_v106 : Ref sig .tc := ⟨.hbm, 206, rfl⟩
abbrev main_while0b_cst_13 : Ref sig .tc := ⟨.hbm, 207, rfl⟩
abbrev main_while0b_v107 : Ref sig .tc := ⟨.hbm, 208, rfl⟩
abbrev main_while0b_v108 : Ref sig .tc := ⟨.hbm, 209, rfl⟩
abbrev main_while0b_v109 : Ref sig .tc := ⟨.hbm, 210, rfl⟩
abbrev main_while0b_cst_14 : Ref sig .tc := ⟨.hbm, 211, rfl⟩
abbrev main_while0b_v110 : Ref sig .tc := ⟨.hbm, 212, rfl⟩
abbrev main_while0b_v111 : Ref sig .tc := ⟨.hbm, 213, rfl⟩
abbrev main_while0b_v112 : Ref sig .tc := ⟨.hbm, 214, rfl⟩
abbrev main_while0b_v113 : Ref sig .tc := ⟨.hbm, 215, rfl⟩
abbrev main_while0b_v114 : Ref sig .tc := ⟨.hbm, 216, rfl⟩
abbrev main_while0b_v115 : Ref sig .tc := ⟨.hbm, 217, rfl⟩
abbrev main_while0b_v116 : Ref sig .tc := ⟨.hbm, 218, rfl⟩
abbrev main_while0b_v117 : Ref sig .tc := ⟨.hbm, 219, rfl⟩
abbrev main_while0b_v118 : Ref sig .tc := ⟨.hbm, 220, rfl⟩
abbrev main_while0b_v119 : Ref sig .tc := ⟨.hbm, 221, rfl⟩
abbrev main_while0b_v120 : Ref sig .tc := ⟨.hbm, 222, rfl⟩
abbrev main_while0b_v121 : Ref sig .tc := ⟨.hbm, 223, rfl⟩
abbrev main_while0b_v122 : Ref sig .tc := ⟨.hbm, 224, rfl⟩
abbrev main_while0b_v123 : Ref sig .tc := ⟨.hbm, 225, rfl⟩
abbrev main_while0b_v124 : Ref sig .tc := ⟨.hbm, 226, rfl⟩
abbrev main_while0b_v125 : Ref sig .tc := ⟨.hbm, 227, rfl⟩
abbrev main_while0b_v126 : Ref sig .tc := ⟨.hbm, 228, rfl⟩
abbrev main_while0b_v127 : Ref sig .tc := ⟨.hbm, 229, rfl⟩
abbrev main_while0b_v128 : Ref sig .tc := ⟨.hbm, 230, rfl⟩
abbrev main_while0b_v129 : Ref sig .tc := ⟨.hbm, 231, rfl⟩
abbrev main_while0b_v130 : Ref sig .tc := ⟨.hbm, 232, rfl⟩
abbrev main_while0b_v131 : Ref sig .tc := ⟨.hbm, 233, rfl⟩
abbrev main_while0b_v132 : Ref sig .tc := ⟨.hbm, 234, rfl⟩
abbrev main_while0b_v133 : Ref sig .tc := ⟨.hbm, 235, rfl⟩
abbrev main_while0b_v134 : Ref sig .tc := ⟨.hbm, 236, rfl⟩
abbrev main_while0b_v135 : Ref sig .tc := ⟨.hbm, 237, rfl⟩
abbrev main_while0b_v136 : Ref sig .tc := ⟨.hbm, 238, rfl⟩
abbrev main_while0b_v137 : Ref sig .tc := ⟨.hbm, 239, rfl⟩
abbrev main_while0b_cst_15 : Ref sig .tc := ⟨.hbm, 240, rfl⟩
abbrev main_while0b_v138 : Ref sig .tc := ⟨.hbm, 241, rfl⟩
abbrev main_while0b_v139 : Ref sig .tc := ⟨.hbm, 242, rfl⟩
abbrev main_while0b_v140 : Ref sig .tc := ⟨.hbm, 243, rfl⟩
abbrev main_while0b_cst_16 : Ref sig .tc := ⟨.hbm, 244, rfl⟩
abbrev main_while0b_v141 : Ref sig .tc := ⟨.hbm, 245, rfl⟩
abbrev main_while0b_v142 : Ref sig .tc := ⟨.hbm, 246, rfl⟩
abbrev main_while0b_v143 : Ref sig .tc := ⟨.hbm, 247, rfl⟩
abbrev main_while0b_v144 : Ref sig .tc := ⟨.hbm, 248, rfl⟩
abbrev main_while0b_v145 : Ref sig .tc := ⟨.hbm, 249, rfl⟩
abbrev main_while0b_v146 : Ref sig .tc := ⟨.hbm, 250, rfl⟩
abbrev main_while0b_v147 : Ref sig .tc := ⟨.hbm, 251, rfl⟩
abbrev main_while0b_v148 : Ref sig .tc := ⟨.hbm, 252, rfl⟩
abbrev main_while0b_cst_17 : Ref sig .tc := ⟨.hbm, 253, rfl⟩
abbrev main_while0b_call5_v0 : Ref sig .tc := ⟨.hbm, 254, rfl⟩
abbrev main_while0b_call5_v1 : Ref sig .tc := ⟨.hbm, 255, rfl⟩
abbrev main_while0b_v149 : Ref sig .tc := ⟨.hbm, 256, rfl⟩
abbrev main_while0b_call6_v0 : Ref sig .tc := ⟨.hbm, 257, rfl⟩
abbrev main_while0b_call6_c : Ref sig .tc := ⟨.hbm, 258, rfl⟩
abbrev main_while0b_call6_c_0 : Ref sig .tc := ⟨.hbm, 259, rfl⟩
abbrev main_while0b_v150 : Ref sig .tc := ⟨.hbm, 260, rfl⟩
abbrev main_while0b_call7_v0 : Ref sig .tc := ⟨.hbm, 261, rfl⟩
abbrev main_while0b_call7_c : Ref sig .tc := ⟨.hbm, 262, rfl⟩
abbrev main_while0b_call7_c_0 : Ref sig .tc := ⟨.hbm, 263, rfl⟩
abbrev main_while0b_v151 : Ref sig .tc := ⟨.hbm, 264, rfl⟩
abbrev main_while0b_c_18 : Ref sig .tc := ⟨.hbm, 265, rfl⟩
abbrev main_while0b_v152 : Ref sig .tc := ⟨.hbm, 266, rfl⟩
abbrev main_v65 : Ref sig .tc := ⟨.hbm, 267, rfl⟩
abbrev main_v66 : Ref sig .tc := ⟨.hbm, 268, rfl⟩
abbrev main_v67 : Ref sig .tc := ⟨.hbm, 269, rfl⟩
abbrev main_v68 : Ref sig .tc := ⟨.hbm, 270, rfl⟩
abbrev main_v69 : Ref sig .tc := ⟨.hbm, 271, rfl⟩
abbrev main_call8_c : Ref sig .tc := ⟨.hbm, 272, rfl⟩
abbrev main_call8_v0 : Ref sig .tc := ⟨.hbm, 273, rfl⟩
abbrev main_call8_v1 : Ref sig .tc := ⟨.hbm, 274, rfl⟩
abbrev main_call8_c_0 : Ref sig .tc := ⟨.hbm, 275, rfl⟩
abbrev main_call8_v2 : Ref sig .tc := ⟨.hbm, 276, rfl⟩
abbrev main_call8_v3 : Ref sig .tc := ⟨.hbm, 277, rfl⟩
abbrev main_call8_v4 : Ref sig .tc := ⟨.hbm, 278, rfl⟩
abbrev main_call8_c_1 : Ref sig .tc := ⟨.hbm, 279, rfl⟩
abbrev main_call8_c_2 : Ref sig .tc := ⟨.hbm, 280, rfl⟩
abbrev main_call8_v5 : Ref sig .tc := ⟨.hbm, 281, rfl⟩
abbrev main_call8_v6 : Ref sig .tc := ⟨.hbm, 282, rfl⟩
abbrev main_call8_v7 : Ref sig .tc := ⟨.hbm, 283, rfl⟩
abbrev main_call8_v8 : Ref sig .tc := ⟨.hbm, 284, rfl⟩
abbrev main_call8_v9 : Ref sig .tc := ⟨.hbm, 285, rfl⟩
abbrev main_call8_v10 : Ref sig .tc := ⟨.hbm, 286, rfl⟩
abbrev main_call8_c_3 : Ref sig .tc := ⟨.hbm, 287, rfl⟩
abbrev main_call8_v11 : Ref sig .tc := ⟨.hbm, 288, rfl⟩
abbrev main_call8_v12 : Ref sig .tc := ⟨.hbm, 289, rfl⟩
abbrev main_call8_v13 : Ref sig .tc := ⟨.hbm, 290, rfl⟩
abbrev main_call8_cst : Ref sig .tc := ⟨.hbm, 291, rfl⟩
abbrev main_call8_v14 : Ref sig .tc := ⟨.hbm, 292, rfl⟩
abbrev main_v70 : Ref sig .tc := ⟨.hbm, 293, rfl⟩
abbrev main_v71 : Ref sig .tc := ⟨.hbm, 294, rfl⟩
abbrev main_v72 : Ref sig .tc := ⟨.hbm, 295, rfl⟩
abbrev main_v73 : Ref sig .tc := ⟨.hbm, 296, rfl⟩
abbrev main_v74 : Ref sig .tc := ⟨.hbm, 297, rfl⟩

abbrev nD : Nat := 1
abbrev τ : Topo := Topo.v7x

variable {F : FTy → Type} [FloatOps F]

abbrev main_while0_count : Scf.Loop 32 := ⟨0#32, 1000#32, 1#32⟩
-- ==== Proof.Body.lean ====
/-
  What one block of the suppression kernel computes, and its run. The block's boxes are computed once; then a counted loop of 1000
  trips carries the scores: each trip stores one row of the output window and hands on the scores with the selected entry and
  its close neighbours pushed down. `stepS` and `rowS` name one trip's new scores and stored row; `scoresAt` the scores before
  trip `k`. The run says of the output window that its first 1000 rows are the stored rows, and nothing of the rows after them.
-/
module

public import proofs.«01_k».proof.Proof.Gen.KernelIdeal.Frame
public import proofs.«01_k».proof.Proof.Gen.KernelIdeal.Skeleton
public import Idealize.ShloMosaic.Lib.Exec
public import Idealize.ShloMosaic.Lib.Pipeline.DatRel
public import Idealize.ShloMosaic.Lib.Writes
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-! ## One trip -/

/-- The scores after one trip from the scores `s`: tie-breaking ids `v3`, box corners `v55 v59 v63 v65`. -/
def stepS (v3 : IVec S8x768 32) (v55 v59 v63 v65 : FVec F S8x768 .f32) (s : FVec F S8x768 .f32) : FVec F S8x768 .f32 :=
  k0_pay5 v55 v59 v63 v65 s (k0_pay7 v3 s) (k0_pay9 v3 v55 s) (k0_pay10 v3 v59 s) (k0_pay11 v3 v63 s)
    (k0_pay12 v3 (k0_pay1 v65) s) (k0_pay13 v3 (k0_pay2 v55 v59 v63 v65) s)

/-- The row that one trip stores, from the scores `s` it finds. -/
def rowS (v3 : IVec S8x768 32) (v55 v59 v63 v65 : FVec F S8x768 .f32) (s : FVec F S8x768 .f32) : FVec F S1x1x128 .f32 :=
  k0_pay4 (k0_pay11 v3 v63 s) (k0_pay12 v3 (k0_pay1 v65) s) (k0_pay14 s) (k0_pay15 v3 v55 k0_pay3 s) (k0_pay16 v3 v59 s)

/-- The scores before trip `k`, from the initial scores. -/
def scoresAt (v3 : IVec S8x768 32) (v55 v59 v63 v65 : FVec F S8x768 .f32) (init : FVec F S8x768 .f32) : ℕ → FVec F S8x768 .f32
  | 0 => init
  | k + 1 => stepS v3 v55 v59 v63 v65 (scoresAt v3 v55 v59 v63 v65 init k)

/-- The first `k` rows of a `1×1024×128` block are the given rows. -/
def RowsTo (rows : ℕ → FVec F S1x1x128 .f32) (k : ℕ) (Y : S1x1024x128.Idx → Elt F .f32) : Prop :=
  ∀ (y : S1x1024x128.Idx) (x : S1x1x128.Idx), (y 1).val < k → (y 2).val = (x 2).val → Y y = rows (y 1).val x

/-- One trip's run: it yields `stepS` of the scores it carries and writes `rowS` of them at row `k` of the output window. -/
theorem trip (c : Dev nD) (i : grid0.Coords) (arg1 : Memref sig .tc .vmem S1x8x768 .f32) (harg1 : arg1.IsWhole)
    (arg2 : Memref sig .tc .vmem S1x8x768 .i32) (harg2 : arg2.IsWhole) (arg3 : Memref sig .tc .vmem S1x4x8x768 .f32) (harg3 : arg3.IsWhole)
    (arg4 : Memref sig .tc .vmem S1x4x8x768 .f32) (harg4 : arg4.IsWhole) (arg5 : Memref sig .tc .vmem S1x1024x128 .f32) (harg5 : arg5.IsWhole)
    (v3 : IVec S8x768 32) (v55 v59 v63 v65 : FVec F S8x768 .f32) (k : Fin k0_t1_loop.trips) (acc : FVec F S8x768 .f32)
    (f : BufTy.Contents (Elt F) arg5.view.ty) :
    (iprop(arg5.view.loc (c : Thread nD τ) ↦[arg5.view.set]{fullShare} f) : sProp 𝕄)
      ⊢ wp frame (wpE (defs₀ (F := F)) Variants.none (c : Thread nD τ) none) Set.univ
          (k0_t1_body (F := F) i arg1 harg1 arg2 harg2 arg3 harg3 arg4 harg4 arg5 harg5 v3 v55 v59 v63 v65 k acc)
          (fun yld => iprop(⌜yld = stepS v3 v55 v59 v63 v65 acc⌝
            ∗ (arg5.view.loc (c : Thread nD τ) ↦[arg5.view.set]{fullShare}
                arg5.view.writes (Elt F) f [⟨Rect.unit (s := S1x1024x128) (k0_off1 k) S1x1x128.size (k0_off1_inb k), rowS v3 v55 v59 v63 v65 acc⟩]))) := by
  have hk : k.val < 1000 := Nat.lt_of_lt_of_le k.isLt k0_t1_abs.2.1
  unfold k0_t1_body
  iintro H
  sl_exec
  sl_step
  isplitr
  · ipureintro; rfl
  · iexact H

/-- Writing row `k` over a block whose first `k` rows are given extends them by one. -/
theorem rowsTo_succ (arg5 : Memref sig .tc .vmem S1x1024x128 .f32) (f : BufTy.Contents (Elt F) arg5.view.ty)
    (rows : ℕ → FVec F S1x1x128 .f32) (k : Fin k0_t1_loop.trips) (h : RowsTo rows k.val (arg5.view.read (Elt F) f)) :
    RowsTo rows (k.val + 1) (arg5.view.read (Elt F) (arg5.view.writes (Elt F) f
      [⟨Rect.unit (s := S1x1024x128) (k0_off1 k) S1x1x128.size (k0_off1_inb k), rows k.val⟩])) := by
  intro y x hy hx
  have h0 : (y 0).val < 1 := (y 0).isLt
  have h1 : (x 0).val < 1 := (x 0).isLt
  have h2 : (x 1).val < 1 := (x 1).isLt
  rcases Nat.lt_succ_iff_lt_or_eq.mp hy with hlt | heq
  · rw [View.read_writes_cons_miss_of_axis arg5.view f _ [] y 1 k.val 1 (by show k0_off1 k 1 = k.val; rw [k0_off1_eq]; rfl) rfl rfl (Or.inl hlt)]
    exact h y x hlt hx
  · rw [View.read_writes_cons_hit_of_coords arg5.view f _ _ [] x y (by
      intro a
      simp only [k0_off1_eq]
      fin_cases a
      · show (y 0).val = 0 + 1 * (x 0).val; omega
      · show (y 1).val = k.val + 1 * (x 1).val; omega
      · show (y 2).val = 0 + 1 * (x 2).val; omega), heq]

/-! ## The loop by its invariant -/

/-- The stores of the trips before trip `k`, the last first: row `j` at row `j` of the window. -/
def pieces (rows : ℕ → FVec F S1x1x128 .f32) : ℕ → List (View.Piece (Elt F) S1x1024x128 .f32)
  | 0 => []
  | k + 1 =>
    if h : k < k0_t1_loop.trips then
      ⟨Rect.unit (s := S1x1024x128) (k0_off1 ⟨k, h⟩) S1x1x128.size (k0_off1_inb ⟨k, h⟩), rows k⟩ :: pieces rows k
    else pieces rows k

/-- One more trip stores one more row. -/
theorem pieces_succ (rows : ℕ → FVec F S1x1x128 .f32) (k : Fin k0_t1_loop.trips) :
    pieces rows (k.val + 1)
      = ⟨Rect.unit (s := S1x1024x128) (k0_off1 k) S1x1x128.size (k0_off1_inb k), rows k.val⟩ :: pieces rows k.val := by
  rw [pieces.eq_2]; exact dif_pos k.isLt

/-- After `k` trips the window's first `k` rows are the stored rows. -/
theorem rowsTo_pieces (arg5 : Memref sig .tc .vmem S1x1024x128 .f32) (G : BufTy.Contents (Elt F) arg5.view.ty)
    (rows : ℕ → FVec F S1x1x128 .f32) (k : ℕ) (hk : k ≤ k0_t1_loop.trips) :
    RowsTo rows k (arg5.view.read (Elt F) (arg5.view.writes (Elt F) G (pieces rows k))) := by
  induction k with
  | zero => intro y x hy; exact absurd hy (Nat.not_lt_zero _)
  | succ k ih =>
    have h := rowsTo_succ arg5 _ rows ⟨k, hk⟩ (ih (Nat.le_of_succ_le hk))
    rw [pieces_succ rows ⟨k, hk⟩]
    exact h

set_option warn.classDefReducibility false in
/-- The loop's invariant before trip `k`: the output window holds the rows stored so far over what it held before the loop, and the
    carried scores are `scoresAt k`. -/
@[sl_loop] def loopInv (c : Dev nD) (i : grid0.Coords) (arg1 : Memref sig .tc .vmem S1x8x768 .f32) (harg1 : arg1.IsWhole)
    (arg2 : Memref sig .tc .vmem S1x8x768 .i32) (harg2 : arg2.IsWhole) (arg3 : Memref sig .tc .vmem S1x4x8x768 .f32) (harg3 : arg3.IsWhole)
    (arg4 : Memref sig .tc .vmem S1x4x8x768 .f32) (harg4 : arg4.IsWhole) (arg5 : Memref sig .tc .vmem S1x1024x128 .f32) (harg5 : arg5.IsWhole)
    (v3 : IVec S8x768 32) (v55 v59 v63 v65 : FVec F S8x768 .f32) (G : BufTy.Contents (Elt F) arg5.view.ty) (init : FVec F S8x768 .f32) :
    Idealize.ShloMosaic.LoopInv (M := 𝕄) frame (wpE (defs₀ (F := F)) Variants.none (c : Thread nD τ) none) Set.univ
      k0_t1_loop.lb k0_t1_loop.ub k0_t1_loop.st k0_t1_ok init
      (k0_t1_body (F := F) i arg1 harg1 arg2 harg2 arg3 harg3 arg4 harg4 arg5 harg5 v3 v55 v59 v63 v65) where
  inv k acc := iprop((∃ f, (arg5.view.loc (c : Thread nD τ) ↦[arg5.view.set]{fullShare} f)
      ∗ ⌜f = arg5.view.writes (Elt F) G (pieces (fun j => rowS v3 v55 v59 v63 v65 (scoresAt v3 v55 v59 v63 v65 init j)) k)⌝)
    ∗ ⌜acc = scoresAt v3 v55 v59 v63 v65 init k⌝)
  step k acc := by
    iintro ⟨⟨%f, H, %hf⟩, %hacc⟩
    subst hacc
    iapply (wp_wand_r Idealize.ShloMosaic.frame (wpE (defs₀ (F := F)) Variants.none (c : Thread nD τ) none) Set.univ)
    isplitl [H]
    · iapply (trip c i arg1 harg1 arg2 harg2 arg3 harg3 arg4 harg4 arg5 harg5 v3 v55 v59 v63 v65 k
        (scoresAt v3 v55 v59 v63 v65 init k.val) f)
      iexact H
    · iintro %yld ⟨%hres, H⟩
      isplitl [H]
      · iexists _
        isplitl [H]; · iexact H
        ipureintro
        rw [hf, pieces_succ]
        rfl
      · ipureintro; exact hres

/-! ## The block -/

/-- The loop has a thousand trips. -/
theorem trips_eq : k0_t1_loop.trips = 1000 := by decide

/-- Plane `a` of a `1×4×8×768` block, as the body loads it. -/
abbrev rect0 : Rect S1x4x8x768 := Rect.unit (s := S1x4x8x768) ![0, 0, 0, 0] S1x1x8x768.size inb_S1x4x8x768_S1x1x8x768_0_0_0_0
abbrev rect1 : Rect S1x4x8x768 := Rect.unit (s := S1x4x8x768) ![0, 1, 0, 0] S1x1x8x768.size inb_S1x4x8x768_S1x1x8x768_0_1_0_0
abbrev rect2 : Rect S1x4x8x768 := Rect.unit (s := S1x4x8x768) ![0, 2, 0, 0] S1x1x8x768.size inb_S1x4x8x768_S1x1x8x768_0_2_0_0
abbrev rect3 : Rect S1x4x8x768 := Rect.unit (s := S1x4x8x768) ![0, 3, 0, 0] S1x1x8x768.size inb_S1x4x8x768_S1x1x8x768_0_3_0_0
abbrev rectW : Rect S1x8x768 := Rect.unit (s := S1x8x768) ![0, 0, 0] S1x8x768.size inb_S1x8x768_S1x8x768_0_0_0

variable (X0 : S1x8x768.Idx → Elt F .f32) (X1 : S1x8x768.Idx → Elt F .i32) (X2 X3 : S1x4x8x768.Idx → Elt F .f32)

/-- The block's initial scores and ids, off the score and id blocks. -/
def blkScore : FVec F S8x768 .f32 := k0_pay17 (View.ld X0 rectW)
def blkTid : IVec S8x768 32 := k0_pay18 (View.ld X1 rectW)
/-- The four corner coordinates of the block's boxes, off the anchor block `X2` and the delta block `X3`. -/
def blkY1 : FVec F S8x768 .f32 :=
  k0_pay32 (k0_pay19 (View.ld X2 rect0)) (k0_pay21 (View.ld X2 rect2)) (k0_pay23 (View.ld X3 rect0)) (k0_pay25 (View.ld X3 rect2)) (Scalar.ofBits .f32 0x3E4CCCCD#32)
def blkX1 : FVec F S8x768 .f32 :=
  k0_pay33 (k0_pay20 (View.ld X2 rect1)) (k0_pay22 (View.ld X2 rect3)) (k0_pay24 (View.ld X3 rect1)) (View.ld X3 rect3)
def blkY2 : FVec F S8x768 .f32 :=
  k0_pay34 (k0_pay19 (View.ld X2 rect0)) (k0_pay21 (View.ld X2 rect2)) (k0_pay23 (View.ld X3 rect0)) (k0_pay25 (View.ld X3 rect2)) (Scalar.ofBits .f32 0x3E4CCCCD#32)
def blkX2 : FVec F S8x768 .f32 :=
  k0_pay35 (k0_pay20 (View.ld X2 rect1)) (k0_pay22 (View.ld X2 rect3)) (k0_pay24 (View.ld X3 rect1)) (View.ld X3 rect3)

/-- The rows that the block's run stores. -/
def blkRows (j : ℕ) : FVec F S1x1x128 .f32 :=
  rowS (blkTid X1) (blkY1 X2 X3) (blkX1 X2 X3) (blkY2 X2 X3) (blkX2 X2 X3)
    (scoresAt (blkTid X1) (blkY1 X2 X3) (blkX1 X2 X3) (blkY2 X2 X3) (blkX2 X2 X3) (blkScore X0) j)

/-- The body's run: from the four input blocks and the output window at anything, it hands the inputs back and leaves an output window
    whose first 1000 rows are `blkRows`. -/
theorem kernelRun (c : Dev nD) (i : grid0.Coords) (arg1 : Memref sig .tc .vmem S1x8x768 .f32) (harg1 : arg1.IsWhole)
    (arg2 : Memref sig .tc .vmem S1x8x768 .i32) (harg2 : arg2.IsWhole) (arg3 : Memref sig .tc .vmem S1x4x8x768 .f32) (harg3 : arg3.IsWhole)
    (arg4 : Memref sig .tc .vmem S1x4x8x768 .f32) (harg4 : arg4.IsWhole) (arg5 : Memref sig .tc .vmem S1x1024x128 .f32) (harg5 : arg5.IsWhole)
    (K : PUnit → sProp 𝕄) :
    iprop(owns (c : Thread nD τ) arg1 fullShare X0 ∗ owns (c : Thread nD τ) arg2 fullShare X1
        ∗ owns (c : Thread nD τ) arg3 fullShare X2 ∗ owns (c : Thread nD τ) arg4 fullShare X3
        ∗ (∃ d, owns (c : Thread nD τ) arg5 fullShare d)
        ∗ (iprop(owns (c : Thread nD τ) arg1 fullShare X0 ∗ owns (c : Thread nD τ) arg2 fullShare X1
              ∗ owns (c : Thread nD τ) arg3 fullShare X2 ∗ owns (c : Thread nD τ) arg4 fullShare X3
              ∗ (∃ Y, ⌜RowsTo (blkRows X0 X1 X2 X3) 1000 Y⌝ ∗ owns (c : Thread nD τ) arg5 fullShare Y)) -∗ K ⟨⟩))
      ⊢ wp frame (wpE (defs₀ (F := F)) Variants.none c none) Set.univ
          (cc0__nms_kernel i arg1 harg1 arg2 harg2 arg3 harg3 arg4 harg4 arg5 harg5) K := by
  simp only [cc0__nms_kernel_eq_skeleton]; unfold cc0__nms_kernel_skel
  unfold owns
  iintro ⟨⟨%f1, %h1, H1⟩, ⟨%f2, %h2, H2⟩, ⟨%f3, %h3, H3⟩, ⟨%f4, %h4, H4⟩, ⟨%d5, %f5, -, H5⟩, Hk⟩
  sl_exec
  sl_step
  subst h1 h2 h3 h4
  iapply Hk
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  iexists _
  isplitr; swap
  · iexists _; isplitr; swap; · iexact H5
    ipureintro; rfl
  ipureintro
  have h := rowsTo_pieces arg5 f5 (blkRows (arg1.view.read (Elt F) f1) (arg2.view.read (Elt F) f2) (arg3.view.read (Elt F) f3)
    (arg4.view.read (Elt F) f4)) 1000 (le_of_eq trips_eq.symm)
  rw [← trips_eq] at h ⊢
  exact h

end Cert.KernelIdeal.Hand

end
-- ==== Proof.Around.lean ====
/-
  A program that is: host lines, one pipelined region whose windows are known up to a relation, host lines. The run's final states
  keep what the lines after the region wrote, as a function of the contents that the region may leave in its arrays.
-/
module

public import Idealize.ShloMosaic.Lib.Pipeline.FrameSuffix
public import Idealize.ShloMosaic.Lib.Pipeline.ArrRel

@[expose] public section

noncomputable section

namespace Cert.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds

variable {nD : Nat} {τ : Topo} {sig : RefSig} {Val : EltTy → Type} [∀ e, Nonempty (Val e)]
variable {Λ₀ : Idealize.SL.Sem.Labels} {P : Type} [Fintype P] [DecidableEq P]
section WithTables

variable (pcs : P → PCfg sig Λ₀ Val) (a : (p : P) → (pcs p).Adm) (p : P) (kit : PLaunchFacts (nD := nD) (τ := τ) pcs p)
variable (defs₀ : Defs nD τ sig Val Λ₀) (𝒱₀ : Variants)
variable (rdat : (c : Dev nD) → RDat τ Val Unit ℕ (UR sig nD τ) ℕ (pin pcs a p) c)
variable (V₀ : Dev nD → Valuation τ sig Val) (ops : List (HloOp τ sig Val))

local notation "𝕄" => MT nD τ sig Unit Val ℕ (UR sig nD τ) ℕ

/-! ## The whole run -/

/-- The pipeline's arrays at contents they may hold after every write-back. -/
theorem arraysAt_open (c : Dev nD) :
    ((rdat c).arraysAt (pin pcs a p).N : sProp 𝕄) ⊢ iprop(∃ A, ⌜∀ w, (rdat c).ArrAt w (pin pcs a p).N (A w)⌝ ∗ (rdat c).arrays A) := by
  unfold RDat.arraysAt RDat.arrays
  refine (bigSep_exists_pi Finset.univ _).trans (exists_elim fun A => ?_)
  refine (bigSep_pure_sep Finset.univ (fun w => (rdat c).ArrAt w (pin pcs a p).N (A w)) _).trans ?_
  iintro ⟨%hA, H⟩
  iexists A
  isplitr; · ipureintro; exact fun w => hA w (Finset.mem_univ w)
  iexact H

/-- Arrays held at contents they may hold are the arrays after every write-back. -/
theorem arraysAt_close (c : Dev nD) (A) (hA : ∀ w, (rdat c).ArrAt w (pin pcs a p).N (A w)) :
    ((rdat c).arrays A : sProp 𝕄) ⊢ (rdat c).arraysAt (pin pcs a p).N := by
  unfold RDat.arraysAt RDat.arrays
  refine bigSep_mono fun w _ => ?_
  show ((((pin pcs a p).win w).arr.view.loc (c.tc : Thread nD τ)) ↦[((pin pcs a p).win w).arr.view.set]{(rdat c).share w} A w : sProp 𝕄)
    ⊢ iprop(∃ f, ⌜(rdat c).ArrAt w (pin pcs a p).N f⌝ ∗ (((pin pcs a p).win w).arr.view.loc (c.tc : Thread nD τ)) ↦[((pin pcs a p).win w).arr.view.set]{(rdat c).share w} f)
  iintro H; iexists (A w); isplitr; · ipureintro; exact hA w
  iexact H

/-- What the host lines after the region leave in a buffer, when the region left the arrays at `A`. -/
def afterTail (c : Dev nD) (A : (w : Fin (pin pcs a p).W) → Buf Val (((pin pcs a p).win w).arr.view.loc (c.tc : Thread nD τ))) (b : Ref sig .tc) :
    Buf Val ((c.tc : Thread nD τ).loc b) :=
  StableHlo.after [ops].flatten (withArrays (pin pcs a p).spec c (V₀ c) A) (Proc.devRef .tc b)

/-- What a final state holds on core `c`: the arrays at contents `A` the region may leave, every other unscoped buffer at what the
    host lines after the region make of them. -/
def Final (c : Dev nD) (s : MemSt nD τ sig Val) : Prop :=
  ∃ A, (∀ w, (rdat c).ArrAt w (pin pcs a p).N (A w)) ∧ ∀ b ∈ restRefsP sig (pcs p).pre (pin pcs a p).spec,
    s.mem ((c.tc : Thread nD τ).loc b) = afterTail pcs a p V₀ ops c A b

include kit in
/-- From any memory with zero counters: every weakly fair execution of @main on the TensorCores terminates, every final state is as
    `Final` says on every core, and every counter ends at zero. -/
theorem run_final (m : (ℓ : Loc nD τ sig) → Buf Val ℓ) (ρ : Dev nD → PrngReg)
    (main : Dev nD → Prog (TpuEff nD τ sig Val (Sig Λ₀ P fun p => (pcs p).Adm) .tc) PUnit)
    (hbody : ∀ c, (rdat c).BodyObligation defs₀ 𝒱₀ () Set.univ)
    (hq : ∀ c w, (rdat c).share w = fullShare) (howed : ∀ c t, (rdat c).owed t = 0)
    (hsub : ∀ opss ∈ [ops], ∀ op ∈ opss, op.bufs ⊆ tailRefs sig (pcs p).pre (pin pcs a p).spec)
    (hfresh : ∀ opss ∈ [ops], ∀ op ∈ opss, op.fresh = ∅)
    (hkeep : ∀ opss ∈ [ops], ∀ op ∈ opss, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain ([ops].map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hin : ∀ c, (ΦA (pin pcs a p).spec c : sProp 𝕄) ⊢ (rdat c).Φ 0)
    (hout : ∀ c, (rdat c).Φ (Fin.last (pin pcs a p).N) ⊢ ΦA (pin pcs a p).spec c) :
    θ_run (Pipeline.defs pcs defs₀) (onTc main) (s₀ m ρ)
      (fun r => (∀ c, Final pcs a p rdat V₀ ops c r.2) ∧ r.2.sem = fun _ => 0) := by
  classical
  have hshare : ∀ c w, ((pin pcs a p).spec w).isOut = false → (rdat c).q w = shareOf (pin pcs a p).spec w := fun c w hw =>
    (rdat c).q_eq_shareOf_of_share_full kit.win.arr_inj (hq c) w hw
  have hsh := kit.to₀.sharedIn
  exact RDat.θ_run_region_pf_tail_quiescent pcs a (RDat.familyOf pcs a p rdat) () (kit.cellOf_inj a) p kit.win.to₀
    (OwnSemFacts.none (pin pcs a p).spec) kit.pre emb₁ defs₀ 𝒱₀ m ρ main (fun _ => chain ([ops].map StableHlo.seq))
    (fun c => by rw [RDat.familyOf_self]; exact hbody c)
    kit.block_pos kit.arr_whole kit.stage_whole (fun c t => by rw [RDat.familyOf_self]; exact howed c t)
    (G := fun _ => iprop(emp))
    (u₀ := initOf (cells (pin pcs a) (kit.cellOf_inj a)) (launchToks (pin pcs a) (kit.cellOf_inj a)))
    (hu₀ := by
      iintro Hu; imodintro
      isplitl [Hu]
      · iapply (show (ownU _ : sProp 𝕄) ⊢ BI.own (emb₁ (initOf (cells (pin pcs a) (kit.cellOf_inj a))
          (launchToks (pin pcs a) (kit.cellOf_inj a)))) from .rfl)
        iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => by
      rw [RDat.familyOf_self]
      exact (rdat c).arrays_split_shared hsh kit.arr_whole (hshare c) (fun b => V₀ c (Proc.devRef .tc b)) _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (pin pcs a p).spec c (fun b => V₀ c (Proc.devRef .tc b)))
    (Z' := fun c => iprop(∃ A, ⌜∀ w, (rdat c).ArrAt w (pin pcs a p).N (A w)⌝
      ∗ unscopedRestP (Ix := Unit) (Name := ℕ) (U := UR sig nD τ) (Lvl := ℕ) (pcs p).pre (pin pcs a p).spec c (afterTail pcs a p V₀ ops c A)))
    (hX := fun c => by
      iintro ⟨HU, -, -, Hp, -⟩; imodintro
      isplitl [Hp]; · iexists _; iexact Hp
      iexact HU)
    (hin := fun c => by
      rw [RDat.familyOf_self]
      refine .trans ?_ (hin c)
      unfold ΦA
      iintro ⟨Hp, -, Hr⟩
      isplitl [Hr]; · iexact Hr
      iexact Hp)
    (hout := fun c => by
      rw [RDat.familyOf_self, ownSems0_none]
      refine (hout c).trans ?_
      unfold ΦA
      iintro ⟨Hr, Hp⟩
      isplitl [Hp]; · iexact Hp
      isplitr; · iempintro
      iexact Hr)
    (htail := fun c Q' => by
      rw [RDat.familyOf_self]
      iintro ⟨Hk, Hb, Ha, HZ⟩
      ihave Ha' := (arraysAt_open pcs a p rdat c) $$ Ha
      icases Ha' with ⟨%A, %hA, Ha⟩
      have hB : (rdat c).arrays A = arrBufs (pin pcs a p).spec c (fun b => withArrays (pin pcs a p).spec c (V₀ c) A (Proc.devRef .tc b)) :=
        ((rdat c).arrBufs_eq_arrays hsh kit.arr_whole (hshare c) _ A fun w =>
          (withArrays_arr (pin pcs a p).spec kit.win.arr_inj c (V₀ c) A w).symm).symm
      iapply (tail_seqs_bufs_b pcs defs₀ 𝒱₀ (pcs p).pre (pin pcs a p).spec c (V₀ c) A [ops] hsub hfresh hkeep Q')
      isplitl [Hk]
      · iintro ⟨Hb2, Ha2, Hu⟩
        iapply Hk
        isplitl [Hb2]; · iexact Hb2
        isplitl [Ha2]; · iapply (arraysAt_close pcs a p rdat c A hA); iapply (Entails.of_eq hB.symm); iexact Ha2
        iexists A; isplitr; · ipureintro; exact hA
        iexact Hu
      · isplitl [Hb]; · iexact Hb
        isplitl [Ha]; · iapply (Entails.of_eq hB); iexact Ha
        iexact HZ)
    (QY := Final pcs a p rdat V₀ ops)
    (hY := fun c s' => by
      iintro ⟨-, HZ, HSI⟩
      icases HZ with ⟨%A, %hA, HZ⟩
      unfold unscopedRestP
      ihave HZ' := (pointsTo_read_all (restRefsP sig (pcs p).pre (pin pcs a p).spec) (fun b => (c.tc : Thread nD τ).loc b)
        (afterTail pcs a p V₀ ops c A) s') $$ [HZ HSI]
      · isplitl [HZ] <;> iassumption
      icases HZ' with ⟨%hZ, HSI⟩
      imodintro
      isplitr
      · ipureintro; exact ⟨A, hA, hZ⟩
      · iexact HSI)
    (hQ := fun s h hz => ⟨fun c => (h c).2.2, hz⟩)

end WithTables

/-! ## The same of pipelines with plain configurations -/

section Plain

variable (cfgs : P → Cfg sig Λ₀) (p : P) (kit : LaunchFacts (nD := nD) (τ := τ) cfgs p)
variable (defs₀ : Defs nD τ sig Val Λ₀) (𝒱₀ : Variants)
variable (rdat : (c : Dev nD) → RDat τ Val Unit ℕ (UR sig nD τ) ℕ (cfgs p) c)
variable (V₀ : Dev nD → Valuation τ sig Val) (ops : List (HloOp τ sig Val))

/-- `Final` of a pipeline that prefetches nothing. -/
def FinalC (c : Dev nD) (s : MemSt nD τ sig Val) : Prop :=
  ∃ A : (w : Fin (cfgs p).W) → Buf Val (((cfgs p).win w).arr.view.loc (c.tc : Thread nD τ)),
    (∀ w, (rdat c).ArrAt w (cfgs p).N (A w)) ∧ ∀ b ∈ restRefsP sig Prefetch.none (cfgs p).spec,
      s.mem ((c.tc : Thread nD τ).loc b) = StableHlo.after [ops].flatten (withArrays (cfgs p).spec c (V₀ c) A) (Proc.devRef .tc b)

include kit in
/-- `run_final` of a pipeline that prefetches nothing. -/
theorem run_finalC (m : (ℓ : Loc nD τ sig) → Buf Val ℓ) (ρ : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hq : ∀ c w, (rdat c).share w = fullShare) (howed : ∀ c t, (rdat c).owed t = 0)
    (hsub : ∀ opss ∈ [ops], ∀ op ∈ opss, op.bufs ⊆ tailRefs sig Prefetch.none (cfgs p).spec)
    (hfresh : ∀ opss ∈ [ops], ∀ op ∈ opss, op.fresh = ∅)
    (hkeep : ∀ opss ∈ [ops], ∀ op ∈ opss, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain ([ops].map StableHlo.seq)))
    (hA : ∀ c w, (rdat c).A w = V₀ c (Proc.devRef .tc (arrRef (cfgs p).spec w)))
    (hin : ∀ c, (rdat c).Φ 0 = ΦA (cfgs p).spec c)
    (hout : ∀ c, (rdat c).Φ (Fin.last (cfgs p).N) = ΦA (cfgs p).spec c) :
    θ_run (Pipeline.defs (fun q => (cfgs q).toPCfg (Val := Val)) defs₀) (onTc main) (s₀ m ρ)
      (fun r => (∀ c, FinalC cfgs p rdat V₀ ops c r.2) ∧ r.2.sem = fun _ => 0) :=
  run_final (fun q => (cfgs q).toPCfg (Val := Val)) (fun q => (cfgs q).toPCfg_adm) p kit.toP defs₀ 𝒱₀ rdat V₀ ops m ρ main hbody hq howed hsub
    hfresh hkeep hmain hA (fun _ k => k.elim0) (fun c => Entails.of_eq (hin c).symm) (fun c => Entails.of_eq (hout c))

end Plain

end Cert.Around

end
-- ==== Proof.Region.lean ====
/-
  The region of the suppression kernel and the program around it. The body obligation of the pipeline: the four input windows are
  left as found, and the output window's first 1000 rows become the rows `blkRows` of the four input blocks. Then the whole run:
  every final state has the pipeline's output array at contents made of such blocks, every other buffer at what the host lines
  before and after the region leave there, and every counter at zero.
-/
module

public import proofs.«01_k».proof.Proof.Body
public import proofs.«01_k».proof.Proof.Around
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Idealize.ShloMosaic.Rounds

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body at a grid point -/

/-- The pipeline's proof data: the arrays as the host lines leave them, the inputs' blocks left in place, the output not named. -/
def dats (_ : Fin 1) (c : Dev nD) : Dat τ (Elt F) Unit ℕ (UR sig nD τ) ℕ cfg0 c where
  A w := V m c (Pipeline.arrRef spec0 w)
  after
    | 0 => fun t => iblk m c 0 t
    | 1 => fun t => iblk m c 1 t
    | 2 => fun t => iblk m c 2 t
    | 3 => fun t => iblk m c 3 t
    | 4 => Pipeline.Dat.unnamed (cfg := cfg0) 4
  Φ _ := Pipeline.ΦA spec0 c
  q _ := fullShare
  owed _ := 0

/-- The one window whose contents are held to a relation: the output. -/
def marked : Fin cfg0.W → Bool
  | 0 => false
  | 1 => false
  | 2 => false
  | 3 => false
  | 4 => true

/-- The rows the body stores at grid point `t` of core `c`. -/
def rowsAt (c : Dev nD) (t : Fin cfg0.N) : ℕ → FVec F S1x1x128 .f32 :=
  blkRows (iblk m c 0 t) (iblk m c 1 t) (iblk m c 2 t) (iblk m c 3 t)

/-- What the output window holds after the body: the block's 1000 rows. -/
def leaves (c : Dev nD) : (w : Fin cfg0.W) → Fin cfg0.N → ((cfg0.win w).block.Idx → Elt F (cfg0.win w).elt) → Prop
  | 0 => fun _ _ => True
  | 1 => fun _ _ => True
  | 2 => fun _ _ => True
  | 3 => fun _ _ => True
  | 4 => fun t X => RowsTo (rowsAt m c t) 1000 X

/-- The arrays' contents before the region. -/
theorem A_eq (c : Dev nD) (w : Fin cfg0.W) : (dats m 0 c).A w = V m c (Pipeline.arrRef spec0 w) := by dsimp only [dats]

/-- The scores' window ends as it was. -/
theorem after_0 (c : Dev nD) (t : Fin cfg0.N) : (dats m 0 c).after 0 t = iblk m c 0 t := by dsimp only [dats]
/-- So does the ids'. -/
theorem after_1 (c : Dev nD) (t : Fin cfg0.N) : (dats m 0 c).after 1 t = iblk m c 1 t := by dsimp only [dats]
/-- So does the anchors'. -/
theorem after_2 (c : Dev nD) (t : Fin cfg0.N) : (dats m 0 c).after 2 t = iblk m c 2 t := by dsimp only [dats]
/-- So does the deltas'. -/
theorem after_3 (c : Dev nD) (t : Fin cfg0.N) : (dats m 0 c).after 3 t = iblk m c 3 t := by dsimp only [dats]

/-- The body at a grid point, started from what the windows hold there. -/
def bodyPre (c : Dev nD) (t : Fin cfg0.N) : sProp 𝕄 :=
  iprop((dats m 0 c).Φ t.castSucc ∗ (dats m 0 c).owesAt () t.castSucc
    ∗ ((∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ Y, ⌜((dats m 0 c).toRRel marked (leaves m c)).Finds 4 t Y⌝ ∗ owns (c : Thread nD τ) (win0_4.stage (cfg0.slots t 4)) fullShare Y)))

/-- And what it returns: the inputs' blocks in place, the output window with its rows. -/
def bodyPost (c : Dev nD) (t : Fin cfg0.N) : sProp 𝕄 :=
  iprop((dats m 0 c).Φ t.succ ∗ (dats m 0 c).owesAt () t.succ
    ∗ (owns (c : Thread nD τ) (win0_0.stage (cfg0.slots t 0)) fullShare (iblk m c 0 t)
      ∗ owns (c : Thread nD τ) (win0_1.stage (cfg0.slots t 1)) fullShare (iblk m c 1 t)
      ∗ owns (c : Thread nD τ) (win0_2.stage (cfg0.slots t 2)) fullShare (iblk m c 2 t)
      ∗ owns (c : Thread nD τ) (win0_3.stage (cfg0.slots t 3)) fullShare (iblk m c 3 t)
      ∗ (∃ X, ⌜RowsTo (rowsAt m c t) 1000 X⌝ ∗ owns (c : Thread nD τ) (win0_4.stage (cfg0.slots t 4)) fullShare X)))

/-- The body at a grid point does what `bodyPost` says: `kernelRun` at the blocks. -/
theorem sound_body (c : Dev nD) (t : Fin cfg0.N) :
    bodyPre m c t ⊢ wp frame (wpE (defs₀ (F := F)) Variants.none c none) Set.univ (bodyAt0 t) (fun _ => bodyPost m c t) := by
  have h0 := before0_0_of m (dats m 0 c) (A_eq m c 0) (after_0 m c) t
  have h1 := before0_1_of m (dats m 0 c) (A_eq m c 1) (after_1 m c) t
  have h2 := before0_2_of m (dats m 0 c) (A_eq m c 2) (after_2 m c) t
  have h3 := before0_3_of m (dats m 0 c) (A_eq m c 3) (after_3 m c) t
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, HO, ⟨%d0, H0⟩, ⟨%d1, H1⟩, ⟨%d2, H2⟩, ⟨%d3, H3⟩, ⟨%Y, -, H4⟩⟩
  rw [h0 d0, h1 d1, h2 d2, h3 d3]
  iapply (kernelRun (iblk m c 0 t) (iblk m c 1 t) (iblk m c 2 t) (iblk m c 3 t) c _ _ _ _ _ _ _ _ _ _ _ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

/-- The body table's row at a grid point is the body at that point. -/
theorem defs₀_row (t : Fin cfg0.N) : defs₀ (F := F) .tc cfg0.body (cfg0.bodyArgs t (cfg0.slots t)) = bodyAt0 t := by
  unfold defs₀; rw [Defs.onTc_tc]

/-- The pipeline's body obligation, the output held to its rows. -/
theorem body_obligation (c : Dev nD) :
    BodyObligationRel (dats (F := F) m 0 c) (defs₀ (F := F)) Variants.none () Set.univ marked (leaves m c) := fun t => by
  rw [bigSep_W0, bigSep_W0, defs₀_row]
  dsimp only [marked]
  refine triple_restated (sound_body m c t) rfl ?_ fun _ => ?_
  · exact .rfl
  · unfold bodyPost
    rw [← after_0, ← after_1, ← after_2, ← after_3]
    exact .rfl

/-- The proof data read relationally: the inputs exactly, the output up to its rows. -/
def rdat (c : Dev nD) : RDat τ (Elt F) Unit ℕ (UR sig nD τ) ℕ cfg0 c := (dats m 0 c).toRRel marked (leaves m c)

/-! ## The whole run -/

/-- The arrays' contents before the region, with the relation. -/
theorem rdat_A (c : Dev nD) (w : Fin cfg0.W) : (rdat m c).A w = V0 m c (Proc.devRef .tc (Pipeline.arrRef spec0 w)) := by
  dsimp only [rdat, Dat.toRRel, Dat.toR, RDat.override, dats, V]

/-- Each array is held whole. -/
theorem rdat_share (c : Dev nD) (w : Fin cfg0.W) : (rdat m c).share w = fullShare :=
  (rdat m c).share_full (fun _ => by dsimp only [rdat, Dat.toRRel, Dat.toR, RDat.override, dats]) w

/-- Nothing is owed. -/
theorem rdat_owed (c : Dev nD) (t : Fin (cfg0.N + 1)) : (rdat m c).owed t = 0 := by
  dsimp only [rdat, Dat.toRRel, Dat.toR, RDat.override, dats]

/-- The resources beside the arrays. -/
theorem rdat_Φ (c : Dev nD) (t : Fin (cfg0.N + 1)) : (rdat m c).Φ t = Pipeline.ΦA spec0 c := by
  dsimp only [rdat, Dat.toRRel, Dat.toR, RDat.override, dats]

/-- What a final state holds on core `c`: the arrays at contents the region may leave, every other unscoped buffer at what the host
    lines after the region make of them. -/
abbrev Final (c : Dev nD) (s : MemSt nD τ sig (Elt F)) : Prop :=
  Cert.Around.FinalC cfgs 0 (rdat m) (V0 m) hostOps1 c s

set_option backward.isDefEq.respectTransparency.types false in
/-- From any memory with zero counters: every weakly fair execution of @main on the TensorCores terminates, every final state is as
    `Final` says on every core, and every counter ends at zero. -/
theorem run_final :
    θ_run defs (onTc (τ := τ) (main (F := F))) (s₀ m ρ) (fun r => (∀ c, Final m c r.2) ∧ r.2.sem = fun _ => 0) :=
  Cert.Around.run_finalC cfgs 0 launch0 defs₀ Variants.none (rdat m) (V0 m) hostOps1 m ρ main
    (hbody := fun c => (body_obligation m c).toRRel) (rdat_share m) (rdat_owed m) sfx_sub sfx_fresh sfx_keeps (hmain m Variants.none)
    (rdat_A m) (fun c => rdat_Φ m c _) (fun c => rdat_Φ m c _)

end Cert.KernelIdeal.Hand

end
-- ==== Proof.Result.lean ====
/-
  What the kernel's program leaves: its three arguments as they were, and in its result, at (b, i, j), lane j of the row that the
  block b stores at trip i.
-/
module

public import proofs.«01_k».proof.Proof.Region
public import Idealize.ShloMosaic.Lib.Pipeline.ValueKit
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat RDat)
open Idealize.SL.Sem

variable {F : FTy → Type} [FloatOps F] [∀ e, Nonempty (Elt F e)]
variable (m : (ℓ : Loc nD τ sig) → Buf (Elt F) ℓ) (ρ : Dev nD → PrngReg)

/-- Each window's block at grid point `t` is the `t`-th along the first axis. -/
theorem index_0 : ∀ t : Fin cfg0.N, win0_0.index t 0 = t.val ∧ win0_0.index t 1 = 0 ∧ win0_0.index t 2 = 0 := by decide +kernel
theorem index_1 : ∀ t : Fin cfg0.N, win0_1.index t 0 = t.val ∧ win0_1.index t 1 = 0 ∧ win0_1.index t 2 = 0 := by decide +kernel
theorem index_2 : ∀ t : Fin cfg0.N, win0_2.index t 0 = t.val ∧ win0_2.index t 1 = 0 ∧ win0_2.index t 2 = 0 ∧ win0_2.index t 3 = 0 := by
  decide +kernel
theorem index_3 : ∀ t : Fin cfg0.N, win0_3.index t 0 = t.val ∧ win0_3.index t 1 = 0 ∧ win0_3.index t 2 = 0 ∧ win0_3.index t 3 = 0 := by
  decide +kernel
theorem index_4 : ∀ t : Fin cfg0.N, win0_4.index t 0 = t.val ∧ win0_4.index t 1 = 0 ∧ win0_4.index t 2 = 0 := by decide +kernel

/-- The output array after the region: at (b, i, j) with i below 1000, lane j of row i of block b. -/
theorem arr_rows (c : Dev nD) (A : Buf (Elt F) ((cfg0.win 4).arr.view.loc (c.tc : Thread nD τ))) (hA : (rdat m c).ArrAt 4 cfg0.N A)
    (i : S2x1024x128.Idx) (t : Fin cfg0.N) (x : S1x1x128.Idx) (hi : (i 1).val < 1000) (ht : (i 0).val = t.val)
    (hx : (i 2).val = (x 2).val) :
    (A : S2x1024x128.Idx → Elt F .f32) i = rowsAt m c t (i 1).val x := by
  obtain ⟨X, hX, hG⟩ := hA.exists_exact
  rw [hG (Function.update (fun _ _ _ => Classical.arbitrary _) 4 X) fun u _ _ => by rw [Function.update_self]]
  refine (Dat.arrAt_forall_of_covers (dat := (rdat m c).withAfter (Function.update (fun _ _ _ => Classical.arbitrary _) 4 X)) 4
    (fun (i : S2x1024x128.Idx) (v : Elt F .f32) => ∀ (t : Fin cfg0.N) (x : S1x1x128.Idx), (i 1).val < 1000 → (i 0).val = t.val →
      (i 2).val = (x 2).val → v = rowsAt m c t (i 1).val x) (by decide +kernel) (fun t hf y => ?_) i) t x hi ht hx
  intro t' x' h1 h2 h3
  have hL : RowsTo (rowsAt m c t) 1000 (X t) := (dats m 0 c).toRRel_leaves (fgt := marked) (Rl := leaves m c) (w := 4) rfl (hX t t.isLt hf)
  rw [RDat.withAfter_after, Function.update_self]
  have e0 : ((((cfg0.win 4).blk t).view.emb y : S2x1024x128.Idx) 0).val = t.val := by blk_simp; exact (index_4 t).1
  have e1 : ((((cfg0.win 4).blk t).view.emb y : S2x1024x128.Idx) 1).val = (y 1).val := by blk_simp; rw [(index_4 t).2.1]; omega
  have e2 : ((((cfg0.win 4).blk t).view.emb y : S2x1024x128.Idx) 2).val = (y 2).val := by blk_simp; rw [(index_4 t).2.2]; omega
  have ht : t = t' := Fin.ext (e0.symm.trans h2)
  subst ht
  rw [e1] at h1 ⊢
  exact hL _ x' h1 (e2.symm.trans h3)

/-- The scores' block at grid point `t`, at coordinates: the array at `t` and the coordinates after the first. -/
theorem iblk_0 (c : Dev nD) (t : Fin cfg0.N) (y : S1x8x768.Idx) (i : S2x8x768.Idx) (h0 : (i 0).val = t.val) (h1 : (i 1).val = (y 1).val)
    (h2 : (i 2).val = (y 2).val) : (iblk m c 0 t : S1x8x768.Idx → Elt F .f32) y = V m c main_v8 i := by
  have e := index_0 t
  refine congrArg (V m c main_v8 : S2x8x768.Idx → Elt F .f32) (funext fun a => Fin.ext ?_)
  fin_cases a
  · show ((((cfg0.win 0).blk t).view.emb y : S2x8x768.Idx) 0).val = (i 0).val
    blk_simp; rw [e.1]; omega
  · show ((((cfg0.win 0).blk t).view.emb y : S2x8x768.Idx) 1).val = (i 1).val
    blk_simp; rw [e.2.1]; omega
  · show ((((cfg0.win 0).blk t).view.emb y : S2x8x768.Idx) 2).val = (i 2).val
    blk_simp; rw [e.2.2]; omega

/-- The ids' block likewise. -/
theorem iblk_1 (c : Dev nD) (t : Fin cfg0.N) (y : S1x8x768.Idx) (i : S2x8x768.Idx) (h0 : (i 0).val = t.val) (h1 : (i 1).val = (y 1).val)
    (h2 : (i 2).val = (y 2).val) : (iblk m c 1 t : S1x8x768.Idx → Elt F .i32) y = V m c main_v11 i := by
  have e := index_1 t
  refine congrArg (V m c main_v11 : S2x8x768.Idx → Elt F .i32) (funext fun a => Fin.ext ?_)
  fin_cases a
  · show ((((cfg0.win 1).blk t).view.emb y : S2x8x768.Idx) 0).val = (i 0).val
    blk_simp; rw [e.1]; omega
  · show ((((cfg0.win 1).blk t).view.emb y : S2x8x768.Idx) 1).val = (i 1).val
    blk_simp; rw [e.2.1]; omega
  · show ((((cfg0.win 1).blk t).view.emb y : S2x8x768.Idx) 2).val = (i 2).val
    blk_simp; rw [e.2.2]; omega

/-- The anchors' block likewise. -/
theorem iblk_2 (c : Dev nD) (t : Fin cfg0.N) (y : S1x4x8x768.Idx) (i : S2x4x8x768.Idx) (h0 : (i 0).val = t.val) (h1 : (i 1).val = (y 1).val)
    (h2 : (i 2).val = (y 2).val) (h3 : (i 3).val = (y 3).val) :
    (iblk m c 2 t : S1x4x8x768.Idx → Elt F .f32) y = V m c main_v15 i := by
  have e := index_2 t
  refine congrArg (V m c main_v15 : S2x4x8x768.Idx → Elt F .f32) (funext fun a => Fin.ext ?_)
  fin_cases a
  · show ((((cfg0.win 2).blk t).view.emb y : S2x4x8x768.Idx) 0).val = (i 0).val
    blk_simp; rw [e.1]; omega
  · show ((((cfg0.win 2).blk t).view.emb y : S2x4x8x768.Idx) 1).val = (i 1).val
    blk_simp; rw [e.2.1]; omega
  · show ((((cfg0.win 2).blk t).view.emb y : S2x4x8x768.Idx) 2).val = (i 2).val
    blk_simp; rw [e.2.2.1]; omega
  · show ((((cfg0.win 2).blk t).view.emb y : S2x4x8x768.Idx) 3).val = (i 3).val
    blk_simp; rw [e.2.2.2]; omega

/-- The deltas' block likewise. -/
theorem iblk_3 (c : Dev nD) (t : Fin cfg0.N) (y : S1x4x8x768.Idx) (i : S2x4x8x768.Idx) (h0 : (i 0).val = t.val) (h1 : (i 1).val = (y 1).val)
    (h2 : (i 2).val = (y 2).val) (h3 : (i 3).val = (y 3).val) :
    (iblk m c 3 t : S1x4x8x768.Idx → Elt F .f32) y = V m c main_v19 i := by
  have e := index_3 t
  refine congrArg (V m c main_v19 : S2x4x8x768.Idx → Elt F .f32) (funext fun a => Fin.ext ?_)
  fin_cases a
  · show ((((cfg0.win 3).blk t).view.emb y : S2x4x8x768.Idx) 0).val = (i 0).val
    blk_simp; rw [e.1]; omega
  · show ((((cfg0.win 3).blk t).view.emb y : S2x4x8x768.Idx) 1).val = (i 1).val
    blk_simp; rw [e.2.1]; omega
  · show ((((cfg0.win 3).blk t).view.emb y : S2x4x8x768.Idx) 2).val = (i 2).val
    blk_simp; rw [e.2.2.1]; omega
  · show ((((cfg0.win 3).blk t).view.emb y : S2x4x8x768.Idx) 3).val = (i 3).val
    blk_simp; rw [e.2.2.2]; omega

/-! ## The final state -/

variable {m}

/-- A buffer that is no array and not the result ends at its contents before the region. -/
theorem final_keep {c : Dev nD} {s : MemSt nD τ sig (Elt F)} (h : Final m c s) (b : Ref sig .tc)
    (hb : b ∈ Pipeline.restRefsP sig Pipeline.Prefetch.none spec0) (hne : b ≠ main_v21) :
    s.mem ((c.tc : Thread nD τ).loc b) = V m c b := by
  obtain ⟨A, -, hr⟩ := h
  rw [hr b hb, StableHlo.after_of_forall_not_mem _ _ fun op hop => ?_]
  · refine Pipeline.withArrays_of_ne spec0 c _ A b fun w e => ?_
    exact (Finset.mem_sdiff.mp (Finset.mem_sdiff.mp hb).1).2 (Finset.mem_image.mpr ⟨w, Finset.mem_univ _, e⟩)
  · simp only [List.flatten_cons, List.flatten_nil, List.append_nil, hostOps1, List.mem_cons, List.mem_nil_iff, or_false] at hop
    subst hop
    simp only [StableHlo.unary_writes, Finset.mem_singleton]
    exact StableHlo.devRef_ne_of_ne hne

/-- The first argument ends as it was. -/
theorem final_arg0 {c : Dev nD} {s : MemSt nD τ sig (Elt F)} (h : Final m c s) :
    s.mem ((c.tc : Thread nD τ).loc main_arg0) = m ((c.tc : Thread nD τ).loc main_arg0) :=
  (final_keep h main_arg0 (by decide) (by decide)).trans (V_main_arg0 m c)
/-- So does the second. -/
theorem final_arg1 {c : Dev nD} {s : MemSt nD τ sig (Elt F)} (h : Final m c s) :
    s.mem ((c.tc : Thread nD τ).loc main_arg1) = m ((c.tc : Thread nD τ).loc main_arg1) :=
  (final_keep h main_arg1 (by decide) (by decide)).trans (V_main_arg1 m c)
/-- So does the third. -/
theorem final_arg2 {c : Dev nD} {s : MemSt nD τ sig (Elt F)} (h : Final m c s) :
    s.mem ((c.tc : Thread nD τ).loc main_arg2) = m ((c.tc : Thread nD τ).loc main_arg2) :=
  (final_keep h main_arg2 (by decide) (by decide)).trans (V_main_arg2 m c)

/-- The result at (b, i, j): lane j of the row that block b stores at trip i. -/
theorem final_result {c : Dev nD} {s : MemSt nD τ sig (Elt F)} (h : Final m c s) (j : S2x1000x4.Idx) (t : Fin cfg0.N) (x : S1x1x128.Idx)
    (ht : (j 0).val = t.val) (hx : (j 2).val = (x 2).val) :
    (s.mem ((c.tc : Thread nD τ).loc main_v21) : S2x1000x4.Idx → Elt F .f32) j = rowsAt m c t (j 1).val x := by
  obtain ⟨A, hA, hr⟩ := h
  rw [hr main_v21 (by decide)]
  have e : StableHlo.after (List.flatten [hostOps1]) (Pipeline.withArrays spec0 c (V0 m c) A) (Proc.devRef .tc main_v21)
      = extractStridedSlice S2x1000x4 ![0, 0, 0] (A 4 : S2x1024x128.Idx → Elt F .f32) slices_S2x1024x128_S2x1000x4_0_0_0 := by
    after_reads_simp
    exact congrArg (extractStridedSlice S2x1000x4 ![0, 0, 0] · slices_S2x1024x128_S2x1000x4_0_0_0)
      (Pipeline.withArrays_arr spec0 launch0.win.arr_inj c (V0 m c) A 4)
  rw [show StableHlo.after (List.flatten [hostOps1]) (Pipeline.withArrays spec0 c (V0 m c) A) (Proc.devRef .tc main_v21) = _ from e]
  refine (extractStridedSlice_apply (s := S2x1024x128) ![0, 0, 0] (A 4) slices_S2x1024x128_S2x1000x4_0_0_0 j
    (fun a => ⟨![0, 0, 0] a + (j a).val, by have := (j a).isLt; fin_cases a <;> simp_all <;> omega⟩) ?_).trans ?_
  · intro a; rfl
  have hj : (j 1).val < 1000 := (j 1).isLt
  refine (arr_rows m c (A 4) (hA 4) _ t x ?_ ?_ ?_).trans ?_
  · show 0 + (j 1).val < 1000; omega
  · show 0 + (j 0).val = t.val; omega
  · show 0 + (j 2).val = (x 2).val; omega
  · show rowsAt m c t (0 + (j 1).val) x = _; rw [Nat.zero_add]

end Cert.KernelIdeal.Hand

end
-- ==== Proof.RefOps.lean ====
/-
  The reference's operations, stretch by stretch: before the loop, one trip of it, its test, and after it.
-/
module

public import proofs.«01_k».proof.Proof.Gen.ReferenceIdeal
public import Idealize.ShloMosaic.Lib.StableHlo.RunLoop

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

variable {F : FTy → Type} [FloatOps F]

/-- The operations of the function that gives the deltas at the chosen positions. -/
abbrev takeDeltaOps (arg0 : StableHlo.TRef sig ⟨S2x261888x4, .f32⟩) (arg1 : StableHlo.TRef sig ⟨S2x6000x1, .i32⟩) (φ : fn_take_along_axis.Bufs) : List (HloOp τ sig (Elt F)) :=
  [ StableHlo.TRef.nullary φ.c (constantI S_ 32 0#32),
    StableHlo.TRef.unary φ.c φ.v0 (broadcastInDim S2x6000x1 ![] bcast_S_S2x6000x1),
    StableHlo.TRef.binary arg1 φ.v0 φ.v1 (cmpi .slt),
    StableHlo.TRef.nullary φ.c_0 (constantI S_ 32 261888#32),
    StableHlo.TRef.unary φ.c_0 φ.v2 (broadcastInDim S2x6000x1 ![] bcast_S_S2x6000x1),
    StableHlo.TRef.binary arg1 φ.v2 φ.v3 addi,
    StableHlo.TRef.ternary φ.v1 φ.v3 arg1 φ.v4 select,
    StableHlo.TRef.nullary φ.c_1 (constantI S1 32 261887#32),
    StableHlo.TRef.nullary φ.c_2 (constantI S_ 32 0#32),
    StableHlo.TRef.unary φ.c_2 φ.v5 (broadcastInDim S2x6000x1 ![] bcast_S_S2x6000x1),
    StableHlo.TRef.binary φ.v4 φ.v5 φ.v6 (cmpi .sge),
    StableHlo.TRef.unary φ.c_1 φ.v7 (broadcastInDim S1x1x1 ![2] bcast_S1_S1x1x1_2),
    StableHlo.TRef.unary φ.v7 φ.v8 (broadcastInDim S2x6000x1 ![0, 1, 2] bcast_S1x1x1_S2x6000x1_0_1_2),
    StableHlo.TRef.binary φ.v4 φ.v8 φ.v9 (cmpi .sle),
    StableHlo.TRef.binary φ.v6 φ.v9 φ.v10 andi,
    StableHlo.TRef.nullary φ.c_3 (constantI S_ 1 1#1),
    StableHlo.TRef.binary φ.v10 φ.c_3 φ.v11 (fun x v => Host.reduce IntOp.andi x v reducesTo_S2x6000x1_S2x6000_d2 h_S_),
    StableHlo.TRef.binary arg0 φ.v4 φ.v12 (fun x i => Host.gather gather_S2x261888x4_S2x6000x1_S2x6000x4_2_1_0_0_1_2_114 x i),
    StableHlo.TRef.unary φ.v11 φ.v13 (broadcastInDim S2x6000x4 ![0, 1] bcast_S2x6000_S2x6000x4_0_1),
    StableHlo.TRef.nullary φ.cst (constant S_ .f32 0x7FC00000#32),
    StableHlo.TRef.unary φ.cst φ.v14 (broadcastInDim S2x6000x4 ![] bcast_S_S2x6000x4),
    StableHlo.TRef.ternary φ.v13 φ.v12 φ.v14 φ.v15 select ]

/-- These operations touch only buffers of the program. -/
theorem takeDeltaOps_sub (arg0 : StableHlo.TRef sig ⟨S2x261888x4, .f32⟩) (arg1 : StableHlo.TRef sig ⟨S2x6000x1, .i32⟩) (φ : fn_take_along_axis.Bufs) : (takeDeltaOps arg0 arg1 φ : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- The operations of the function that gives the anchors at the chosen positions. -/
abbrev takeAnchorOps (arg0 : StableHlo.TRef sig ⟨S2x261888x4, .f32⟩) (arg1 : StableHlo.TRef sig ⟨S2x6000x1, .i32⟩) (φ : fn_take_along_axis_0.Bufs) : List (HloOp τ sig (Elt F)) :=
  [ StableHlo.TRef.nullary φ.c (constantI S_ 32 0#32),
    StableHlo.TRef.unary φ.c φ.v0 (broadcastInDim S2x6000x1 ![] bcast_S_S2x6000x1),
    StableHlo.TRef.binary arg1 φ.v0 φ.v1 (cmpi .slt),
    StableHlo.TRef.nullary φ.c_0 (constantI S_ 32 261888#32),
    StableHlo.TRef.unary φ.c_0 φ.v2 (broadcastInDim S2x6000x1 ![] bcast_S_S2x6000x1),
    StableHlo.TRef.binary arg1 φ.v2 φ.v3 addi,
    StableHlo.TRef.ternary φ.v1 φ.v3 arg1 φ.v4 select,
    StableHlo.TRef.nullary φ.c_1 (constantI S1 32 261887#32),
    StableHlo.TRef.nullary φ.c_2 (constantI S_ 32 0#32),
    StableHlo.TRef.unary φ.c_2 φ.v5 (broadcastInDim S2x6000x1 ![] bcast_S_S2x6000x1),
    StableHlo.TRef.binary φ.v4 φ.v5 φ.v6 (cmpi .sge),
    StableHlo.TRef.unary φ.c_1 φ.v7 (broadcastInDim S1x1x1 ![2] bcast_S1_S1x1x1_2),
    StableHlo.TRef.unary φ.v7 φ.v8 (broadcastInDim S2x6000x1 ![0, 1, 2] bcast_S1x1x1_S2x6000x1_0_1_2),
    StableHlo.TRef.binary φ.v4 φ.v8 φ.v9 (cmpi .sle),
    StableHlo.TRef.binary φ.v6 φ.v9 φ.v10 andi,
    StableHlo.TRef.nullary φ.c_3 (constantI S_ 1 1#1),
    StableHlo.TRef.binary φ.v10 φ.c_3 φ.v11 (fun x v => Host.reduce IntOp.andi x v reducesTo_S2x6000x1_S2x6000_d2 h_S_),
    StableHlo.TRef.binary arg0 φ.v4 φ.v12 (fun x i => Host.gather gather_S2x261888x4_S2x6000x1_S2x6000x4_2_1_0_0_1_2_114 x i),
    StableHlo.TRef.unary φ.v11 φ.v13 (broadcastInDim S2x6000x4 ![0, 1] bcast_S2x6000_S2x6000x4_0_1),
    StableHlo.TRef.nullary φ.cst (constant S_ .f32 0x7FC00000#32),
    StableHlo.TRef.unary φ.cst φ.v14 (broadcastInDim S2x6000x4 ![] bcast_S_S2x6000x4),
    StableHlo.TRef.ternary φ.v13 φ.v12 φ.v14 φ.v15 select ]

/-- These operations touch only buffers of the program. -/
theorem takeAnchorOps_sub (arg0 : StableHlo.TRef sig ⟨S2x261888x4, .f32⟩) (arg1 : StableHlo.TRef sig ⟨S2x6000x1, .i32⟩) (φ : fn_take_along_axis_0.Bufs) : (takeAnchorOps arg0 arg1 φ : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- The operations of the function that gives the first position of the largest score. -/
abbrev argmaxOps (arg0 : StableHlo.TRef sig ⟨S2x6000, .f32⟩) (φ : fn_argmax.Bufs) : List (HloOp τ sig (Elt F)) :=
  [ StableHlo.TRef.nullary φ.v0 (iotaInDim S2x6000 32 1),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S2x6000_S2_d1 h_S_ j).1),
    StableHlo.TRef.quaternary arg0 φ.v0 φ.cst φ.c φ.v1_1 (fun x y u v j => (Host.argReduce reducer_argmax_f32_i32 x y u v reducesTo_S2x6000_S2_d1 h_S_ j).2) ]

/-- These operations touch only buffers of the program. -/
theorem argmaxOps_sub (arg0 : StableHlo.TRef sig ⟨S2x6000, .f32⟩) (φ : fn_argmax.Bufs) : (argmaxOps arg0 φ : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The operations of the function that gives the score at a position. -/
abbrev takeScoreOps (arg0 : StableHlo.TRef sig ⟨S2x6000, .f32⟩) (arg1 : StableHlo.TRef sig ⟨S2x1, .i32⟩) (φ : fn_take_along_axis_1.Bufs) : List (HloOp τ sig (Elt F)) :=
  [ StableHlo.TRef.nullary φ.c (constantI S_ 32 0#32),
    StableHlo.TRef.unary φ.c φ.v0 (broadcastInDim S2x1 ![] bcast_S_S2x1),
    StableHlo.TRef.binary arg1 φ.v0 φ.v1 (cmpi .slt),
    StableHlo.TRef.nullary φ.c_0 (constantI S_ 32 6000#32),
    StableHlo.TRef.unary φ.c_0 φ.v2 (broadcastInDim S2x1 ![] bcast_S_S2x1),
    StableHlo.TRef.binary arg1 φ.v2 φ.v3 addi,
    StableHlo.TRef.ternary φ.v1 φ.v3 arg1 φ.v4 select,
    StableHlo.TRef.reshape φ.v4 φ.v5 (rfl : (.i32 : EltTy) = .i32) shapeCasts_S2x1_S2x1x1,
    StableHlo.TRef.nullary φ.c_1 (constantI S1 32 5999#32),
    StableHlo.TRef.nullary φ.c_2 (constantI S_ 32 0#32),
    StableHlo.TRef.unary φ.c_2 φ.v6 (broadcastInDim S2x1x1 ![] bcast_S_S2x1x1),
    StableHlo.TRef.binary φ.v5 φ.v6 φ.v7 (cmpi .sge),
    StableHlo.TRef.unary φ.c_1 φ.v8 (broadcastInDim S1x1x1 ![2] bcast_S1_S1x1x1_2),
    StableHlo.TRef.unary φ.v8 φ.v9 (broadcastInDim S2x1x1 ![0, 1, 2] bcast_S1x1x1_S2x1x1_0_1_2),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S2x1x1_S2x1_d2 h_S_),
    StableHlo.TRef.binary arg0 φ.v5 φ.v13 (fun x i => Host.gather gather_S2x6000_S2x1x1_S2x1_n_1_0_0_1_2_11 x i),
    StableHlo.TRef.nullary φ.cst (constant S_ .f32 0x7FC00000#32),
    StableHlo.TRef.unary φ.cst φ.v14 (broadcastInDim S2x1 ![] bcast_S_S2x1),
    StableHlo.TRef.ternary φ.v12 φ.v13 φ.v14 φ.v15 select ]

/-- These operations touch only buffers of the program. -/
theorem takeScoreOps_sub (arg0 : StableHlo.TRef sig ⟨S2x6000, .f32⟩) (arg1 : StableHlo.TRef sig ⟨S2x1, .i32⟩) (φ : fn_take_along_axis_1.Bufs) : (takeScoreOps arg0 arg1 φ : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- The operations of the function that gives the box at a position. -/
abbrev takeBoxOps (arg0 : StableHlo.TRef sig ⟨S2x6000x4, .f32⟩) (arg1 : StableHlo.TRef sig ⟨S2x1x1, .i32⟩) (φ : fn_take_along_axis_2.Bufs) : List (HloOp τ sig (Elt F)) :=
  [ StableHlo.TRef.nullary φ.c (constantI S_ 32 0#32),
    StableHlo.TRef.unary φ.c φ.v0 (broadcastInDim S2x1x1 ![] bcast_S_S2x1x1),
    StableHlo.TRef.binary arg1 φ.v0 φ.v1 (cmpi .slt),
    StableHlo.TRef.nullary φ.c_0 (constantI S_ 32 6000#32),
    StableHlo.TRef.unary φ.c_0 φ.v2 (broadcastInDim S2x1x1 ![] bcast_S_S2x1x1),
    StableHlo.TRef.binary arg1 φ.v2 φ.v3 addi,
    StableHlo.TRef.ternary φ.v1 φ.v3 arg1 φ.v4 select,
    StableHlo.TRef.nullary φ.c_1 (constantI S1 32 5999#32),
    StableHlo.TRef.nullary φ.c_2 (constantI S_ 32 0#32),
    StableHlo.TRef.unary φ.c_2 φ.v5 (broadcastInDim S2x1x1 ![] bcast_S_S2x1x1),
    StableHlo.TRef.binary φ.v4 φ.v5 φ.v6 (cmpi .sge),
    StableHlo.TRef.unary φ.c_1 φ.v7 (broadcastInDim S1x1x1 ![2] bcast_S1_S1x1x1_2),
    StableHlo.TRef.unary φ.v7 φ.v8 (broadcastInDim S2x1x1 ![0, 1, 2] bcast_S1x1x1_S2x1x1_0_1_2),
    StableHlo.TRef.binary φ.v4 φ.v8 φ.v9 (cmpi .sle),
    StableHlo.TRef.binary φ.v6 φ.v9 φ.v10 andi,
    StableHlo.TRef.nullary φ.c_3 (constantI S_ 1 1#1),
    StableHlo.TRef.binary φ.v10 φ.c_3 φ.v11 (fun x v => Host.reduce IntOp.andi x v reducesTo_S2x1x1_S2x1_d2 h_S_),
    StableHlo.TRef.binary arg0 φ.v4 φ.v12 (fun x i => Host.gather gather_S2x6000x4_S2x1x1_S2x1x4_2_1_0_0_1_2_114 x i),
    StableHlo.TRef.unary φ.v11 φ.v13 (broadcastInDim S2x1x4 ![0, 1] bcast_S2x1_S2x1x4_0_1),
    StableHlo.TRef.nullary φ.cst (constant S_ .f32 0x7FC00000#32),
    StableHlo.TRef.unary φ.cst φ.v14 (broadcastInDim S2x1x4 ![] bcast_S_S2x1x4),
    StableHlo.TRef.ternary φ.v13 φ.v12 φ.v14 φ.v15 select ]

/-- These operations touch only buffers of the program. -/
theorem takeBoxOps_sub (arg0 : StableHlo.TRef sig ⟨S2x6000x4, .f32⟩) (arg1 : StableHlo.TRef sig ⟨S2x1x1, .i32⟩) (φ : fn_take_along_axis_2.Bufs) : (takeBoxOps arg0 arg1 φ : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- The operations of the function that gives the suppressed scores. -/
abbrev whereOps (arg0 : StableHlo.TRef sig ⟨S2x6000, .i1⟩) (arg1 : StableHlo.TRef sig ⟨S_, .f32⟩) (arg2 : StableHlo.TRef sig ⟨S2x6000, .f32⟩) (φ : fn_where.Bufs) : List (HloOp τ sig (Elt F)) :=
  [ StableHlo.TRef.unary arg1 φ.v0 id,
    StableHlo.TRef.unary φ.v0 φ.v1 (broadcastInDim S2x6000 ![] bcast_S_S2x6000),
    StableHlo.TRef.ternary arg0 φ.v1 arg2 φ.v2 select ]

/-- These operations touch only buffers of the program. -/
theorem whereOps_sub (arg0 : StableHlo.TRef sig ⟨S2x6000, .i1⟩) (arg1 : StableHlo.TRef sig ⟨S_, .f32⟩) (arg2 : StableHlo.TRef sig ⟨S2x6000, .f32⟩) (φ : fn_where.Bufs) : (whereOps arg0 arg1 arg2 φ : List (HloOp τ sig (Elt F))).Forall fun op => op.bufs ⊆ StableHlo.tcRefs τ sig :=
  ⟨StableHlo.unary_bufs_sub .., StableHlo.unary_bufs_sub .., StableHlo.ternary_bufs_sub ..⟩

/-- The operations of the function that gives the chosen position stored at its trip. -/
abbrev putIxOps (arg0 : StableHlo.TRef sig ⟨S1000x2x1, .i32⟩) (arg1 : StableHlo.TRef sig ⟨S2x1, .i32⟩) (arg2 : StableHlo.TRef sig ⟨S_, .i32⟩) (φ : fn_dynamic_update_index_in_dim.Bufs) : List (HloOp τ sig (Elt F)) :=
  [ StableHlo.TRef.unary arg1 φ.v0 (broadcastInDim S1x2x1 ![1, 2] bcast_S2x1_S1x2x1_1_2),
    StableHlo.TRef.nullary φ.c (constantI S_ 32 0#32),
    StableHlo.TRef.nullary φ.c_0 (constantI S_ 32 0#32),
    StableHlo.TRef.binaryIndexed arg0 φ.v0 ![arg2, φ.c, φ.c_0] φ.v1 (fun x u i => Host.dynamicUpdateSlice x u (fun k => (i k (Shape.Idx.first h_S_)).toInt) updateFits_S1000x2x1_S1x2x1) ]

/-- These operations touch only buffers of the program. -/
theorem putIxOps_sub (arg0 : StableHlo.TRef sig ⟨S1000x2x1, .i32⟩) (arg1 : StableHlo.TRef sig ⟨S2x1, .i32⟩) (arg2 : StableHlo.TRef sig ⟨S_, .i32⟩) (φ : fn_dynamic_update_index_in_dim.Bufs) : (putIxOps arg0 arg1 arg2 φ : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- The operations of the function that gives the mark of a valid choice stored at its trip. -/
abbrev putOkOps (arg0 : StableHlo.TRef sig ⟨S1000x2x1, .i1⟩) (arg1 : StableHlo.TRef sig ⟨S2x1, .i1⟩) (arg2 : StableHlo.TRef sig ⟨S_, .i32⟩) (φ : fn_dynamic_update_index_in_dim_3.Bufs) : List (HloOp τ sig (Elt F)) :=
  [ StableHlo.TRef.unary arg1 φ.v0 (broadcastInDim S1x2x1 ![1, 2] bcast_S2x1_S1x2x1_1_2),
    StableHlo.TRef.nullary φ.c (constantI S_ 32 0#32),
    StableHlo.TRef.nullary φ.c_0 (constantI S_ 32 0#32),
    StableHlo.TRef.binaryIndexed arg0 φ.v0 ![arg2, φ.c, φ.c_0] φ.v1 (fun x u i => Host.dynamicUpdateSlice x u (fun k => (i k (Shape.Idx.first h_S_)).toInt) updateFits_S1000x2x1_S1x2x1) ]

/-- These operations touch only buffers of the program. -/
theorem putOkOps_sub (arg0 : StableHlo.TRef sig ⟨S1000x2x1, .i1⟩) (arg1 : StableHlo.TRef sig ⟨S2x1, .i1⟩) (arg2 : StableHlo.TRef sig ⟨S_, .i32⟩) (φ : fn_dynamic_update_index_in_dim_3.Bufs) : (putOkOps arg0 arg1 arg2 φ : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- The operations of the function that gives the boxes of the chosen positions. -/
abbrev takeRowOps (arg0 : StableHlo.TRef sig ⟨S2x6000x4, .f32⟩) (arg1 : StableHlo.TRef sig ⟨S2x1000x1, .i32⟩) (φ : fn_take_along_axis_4.Bufs) : List (HloOp τ sig (Elt F)) :=
  [ StableHlo.TRef.nullary φ.c (constantI S_ 32 0#32),
    StableHlo.TRef.unary φ.c φ.v0 (broadcastInDim S2x1000x1 ![] bcast_S_S2x1000x1),
    StableHlo.TRef.binary arg1 φ.v0 φ.v1 (cmpi .slt),
    StableHlo.TRef.nullary φ.c_0 (constantI S_ 32 6000#32),
    StableHlo.TRef.unary φ.c_0 φ.v2 (broadcastInDim S2x1000x1 ![] bcast_S_S2x1000x1),
    StableHlo.TRef.binary arg1 φ.v2 φ.v3 addi,
    StableHlo.TRef.ternary φ.v1 φ.v3 arg1 φ.v4 select,
    StableHlo.TRef.nullary φ.c_1 (constantI S1 32 5999#32),
    StableHlo.TRef.nullary φ.c_2 (constantI S_ 32 0#32),
    StableHlo.TRef.unary φ.c_2 φ.v5 (broadcastInDim S2x1000x1 ![] bcast_S_S2x1000x1),
    StableHlo.TRef.binary φ.v4 φ.v5 φ.v6 (cmpi .sge),
    StableHlo.TRef.unary φ.c_1 φ.v7 (broadcastInDim S1x1x1 ![2] bcast_S1_S1x1x1_2),
    StableHlo.TRef.unary φ.v7 φ.v8 (broadcastInDim S2x1000x1 ![0, 1, 2] bcast_S1x1x1_S2x1000x1_0_1_2),
    StableHlo.TRef.binary φ.v4 φ.v8 φ.v9 (cmpi .sle),
    StableHlo.TRef.binary φ.v6 φ.v9 φ.v10 andi,
    StableHlo.TRef.nullary φ.c_3 (constantI S_ 1 1#1),
    StableHlo.TRef.binary φ.v10 φ.c_3 φ.v11 (fun x v => Host.reduce IntOp.andi x v reducesTo_S2x1000x1_S2x1000_d2 h_S_),
    StableHlo.TRef.binary arg0 φ.v4 φ.v12 (fun x i => Host.gather gather_S2x6000x4_S2x1000x1_S2x1000x4_2_1_0_0_1_2_114 x i),
    StableHlo.TRef.unary φ.v11 φ.v13 (broadcastInDim S2x1000x4 ![0, 1] bcast_S2x1000_S2x1000x4_0_1),
    StableHlo.TRef.nullary φ.cst (constant S_ .f32 0x7FC00000#32),
    StableHlo.TRef.unary φ.cst φ.v14 (broadcastInDim S2x1000x4 ![] bcast_S_S2x1000x4),
    StableHlo.TRef.ternary φ.v13 φ.v12 φ.v14 φ.v15 select ]

/-- These operations touch only buffers of the program. -/
theorem takeRowOps_sub (arg0 : StableHlo.TRef sig ⟨S2x6000x4, .f32⟩) (arg1 : StableHlo.TRef sig ⟨S2x1000x1, .i32⟩) (φ : fn_take_along_axis_4.Bufs) : (takeRowOps arg0 arg1 φ : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- A stretch of operations before the loop. -/
abbrev pre0 : List (HloOp τ sig (Elt F)) :=
  [ StableHlo.nullary main_cst (fun i => FloatOps.ofBits .f32 (lit0 (S4.rowMajor i))),
    StableHlo.unary main_arg0 main_v0 ((extractStridedSlice S2x261888x1 ![0, 0, 1] · slices_S2x261888x2_S2x261888x1_0_0_1) : (⟨S2x261888x2, .f32⟩ : BufTy).Contents (Elt F) → (⟨S2x261888x1, .f32⟩ : BufTy).Contents (Elt F)),
    StableHlo.reshape main_v0 main_v1 (rfl : (.f32 : EltTy) = .f32) shapeCasts_S2x261888x1_S2x261888,
    StableHlo.reshape main_cst main_v2 (rfl : (.f32 : EltTy) = .f32) shapeCasts_S4_S1x1x4,
    StableHlo.unary main_v2 main_v3 (broadcastInDim S2x261888x4 ![0, 1, 2] bcast_S1x1x4_S2x261888x4_0_1_2 : (⟨S1x1x4, .f32⟩ : BufTy).Contents (Elt F) → (⟨S2x261888x4, .f32⟩ : BufTy).Contents (Elt F)),
    StableHlo.binary main_arg1 main_v3 main_v4 (mulf : (⟨S2x261888x4, .f32⟩ : BufTy).Contents (Elt F) → (⟨S2x261888x4, .f32⟩ : BufTy).Contents (Elt F) → (⟨S2x261888x4, .f32⟩ : BufTy).Contents (Elt F)),
    StableHlo.unary main_v1 main_values ((fun x => (Host.topK S2x6000 1 (FloatOps.cmpfTotal .gt) x sliceFits_S2x261888_S2x6000).1) : (⟨S2x261888, .f32⟩ : BufTy).Contents (Elt F) → (⟨S2x6000, .f32⟩ : BufTy).Contents (Elt F)),
    StableHlo.unary main_v1 main_indices ((fun x => (Host.topK S2x6000 1 (FloatOps.cmpfTotal .gt) x sliceFits_S2x261888_S2x6000).2) : (⟨S2x261888, .f32⟩ : BufTy).Contents (Elt F) → (⟨S2x6000, .i32⟩ : BufTy).Contents (Elt F)),
    StableHlo.unary main_indices main_v5 (broadcastInDim S2x6000x1 ![0, 1] bcast_S2x6000_S2x6000x1_0_1 : (⟨S2x6000, .i32⟩ : BufTy).Contents (Elt F) → (⟨S2x6000x1, .i32⟩ : BufTy).Contents (Elt F)) ]

/-- These operations touch only buffers of the program. -/
theorem pre0_sub : (pre0 : List (HloOp τ sig (Elt F))).Forall fun op => op.bufs ⊆ StableHlo.tcRefs τ sig :=
  ⟨StableHlo.nullary_bufs_sub .., StableHlo.unary_bufs_sub .., StableHlo.reshape_bufs_sub .., StableHlo.reshape_bufs_sub .., StableHlo.unary_bufs_sub .., StableHlo.binary_bufs_sub .., StableHlo.unary_bufs_sub .., StableHlo.unary_bufs_sub .., StableHlo.unary_bufs_sub ..⟩

/-- A stretch of operations before the loop. -/
abbrev pre1 : List (HloOp τ sig (Elt F)) :=
  [ StableHlo.unary main_indices main_v7 (broadcastInDim S2x6000x1 ![0, 1] bcast_S2x6000_S2x6000x1_0_1 : (⟨S2x6000, .i32⟩ : BufTy).Contents (Elt F) → (⟨S2x6000x1, .i32⟩ : BufTy).Contents (Elt F)) ]

/-- These operations touch only buffers of the program. -/
theorem pre1_sub : (pre1 : List (HloOp τ sig (Elt F))).Forall fun op => op.bufs ⊆ StableHlo.tcRefs τ sig :=
  StableHlo.unary_bufs_sub ..

/-- A stretch of operations before the loop. -/
abbrev pre2 : List (HloOp τ sig (Elt F)) :=
  [ StableHlo.unary main_v8 main_v9 ((extractStridedSlice S2x6000x1 ![0, 0, 2] · slices_S2x6000x4_S2x6000x1_0_0_2) : (⟨S2x6000x4, .f32⟩ : BufTy).Contents (Elt F) → (⟨S2x6000x1, .f32⟩ : BufTy).Contents (Elt F)),
    StableHlo.reshape main_v9 main_v10 (rfl : (.f32 : EltTy) = .f32) shapeCasts_S2x6000x1_S2x6000,
    StableHlo.unary main_v8 main_v11 ((extractStridedSlice S2x6000x1 ![0, 0, 0] · slices_S2x6000x4_S2x6000x1_0_0_0) : (⟨S2x6000x4, .f32⟩ : BufTy).Contents (Elt F) → (⟨S2x6000x1, .f32⟩ : BufTy).Contents (Elt F)),
    StableHlo.reshape main_v11 main_v12 (rfl : (.f32 : EltTy) = .f32) shapeCasts_S2x6000x1_S2x6000,
    StableHlo.binary main_v10 main_v12 main_v13 (subf : (⟨S2x6000, .f32⟩ : BufTy).Contents (Elt F) → (⟨S2x6000, .f32⟩ : BufTy).Contents (Elt F) → (⟨S2x6000, .f32⟩ : BufTy).Contents (Elt F)),
    StableHlo.unary main_v8 main_v14 ((extractStridedSlice S2x6000x1 ![0, 0, 3] · slices_S2x6000x4_S2x6000x1_0_0_3) : (⟨S2x6000x4, .f32⟩ : BufTy).Contents (Elt F) → (⟨S2x6000x1, .f32⟩ : BufTy).Contents (Elt F)),
    StableHlo.reshape main_v14 main_v15 (rfl : (.f32 : EltTy) = .f32) shapeCasts_S2x6000x1_S2x6000,
    StableHlo.unary main_v8 main_v16 ((extractStridedSlice S2x6000x1 ![0, 0, 1] · slices_S2x6000x4_S2x6000x1_0_0_1) : (⟨S2x6000x4, .f32⟩ : BufTy).Contents (Elt F) → (⟨S2x6000x1, .f32⟩ : BufTy).Contents (Elt F)),
    StableHlo.reshape main_v16 main_v17 (rfl : (.f32 : EltTy) = .f32) shapeCasts_S2x6000x1_S2x6000,
    StableHlo.binary main_v15 main_v17 main_v18 (subf : (⟨S2x6000, .f32⟩ : BufTy).Contents (Elt F) → (⟨S2x6000, .f32⟩ : BufTy).Contents (Elt F) → (⟨S2x6000, .f32⟩ : BufTy).Contents (Elt F)),
    StableHlo.unary main_v8 main_v19 ((extractStridedSlice S2x6000x1 ![0, 0, 0] · slices_S2x6000x4_S2x6000x1_0_0_0) : (⟨S2x6000x4, .f32⟩ : BufTy).Contents (Elt F) → (⟨S2x6000x1, .f32⟩ : BufTy).Contents (Elt F)),
    StableHlo.reshape main_v19 main_v20 (rfl : (.f32 : EltTy) = .f32) shapeCasts_S2x6000x1_S2x6000,
    StableHlo.nullary main_cst_0 (constant S_ .f32 0x3F000000#32),
    StableHlo.unary main_cst_0 main_v21 (broadcastInDim S2x6000 ![] bcast_S_S2x6000 : (⟨S_, .f32⟩ : BufTy).Contents (Elt F) → (⟨S2x6000, .f32⟩ : BufTy).Contents (Elt F)),
    StableHlo.binary main_v21 main_v13 main_v22 (mulf : (⟨S2x6000, .f32⟩ : BufTy).Contents (Elt F) → (⟨S2x6000, .f32⟩ : BufTy).Contents (Elt F) → (⟨S2x6000, .f32⟩ : BufTy).Contents (Elt F)),
    StableHlo.binary main_v20 main_v22 main_v23 (addf : (⟨S2x6000, .f32⟩ : BufTy).Contents (Elt F) → (⟨S2x6000, .f32⟩ : BufTy).Contents (Elt F) → (⟨S2x6000, .f32⟩ : BufTy).Contents (Elt F)),
    StableHlo.unary main_v8 main_v24 ((extractStridedSlice S2x6000x1 ![0, 0, 1] · slices_S2x6000x4_S2x6000x1_0_0_1) : (⟨S2x6000x4, .f32⟩ : BufTy).Contents (Elt F) → (⟨S2x6000x1, .f32⟩ : BufTy).Contents (Elt F)),
    StableHlo.reshape main_v24 main_v25 (rfl : (.f32 : EltTy) = .f32) shapeCasts_S2x6000x1_S2x6000,
    StableHlo.nullary main_cst_1 (constant S_ .f32 0x3F000000#32),
    StableHlo.unary main_cst_1 main_v26 (broadcastInDim S2x6000 ![] bcast_S_S2x6000 : (⟨S_, .f32⟩ : BufTy).Contents (Elt F) → (⟨S2x6000, .f32⟩ : BufTy).Contents (Elt F)),
    StableHlo.binary main_v26 main_v18 main_v27 (mulf : (⟨S2x6000, .f32⟩ : BufTy).Contents (Elt F) → (⟨S2x6000, .f32⟩ : BufTy).Contents (Elt F) → (⟨S2x6000, .f32⟩ : BufTy).Contents (Elt F)),
    StableHlo.binary main_v25 main_v27 main_v28 (addf : (⟨S2x6000, .f32⟩ : BufTy).Contents (Elt F) → (⟨S2x6000, .f32⟩ : BufTy).Contents (Elt F) → (⟨S2x6000, .f32⟩ : BufTy).Contents (Elt F)),
    StableHlo.unary main_v6 main_v29 ((extractStridedSlice S2x6000x1 ![0, 0, 0] · slices_S2x6000x4_S2x6000x1_0_0_0) : (⟨S2x6000x4, .f32⟩ : BufTy).Contents (Elt F) → (⟨S2x6000x1, .f32⟩ : BufTy).Contents (Elt F)),
    StableHlo.reshape main_v29 main_v30 (rfl : (.f32 : EltTy) = .f32) shapeCasts_S2x6000x1_S2x6000,
    StableHlo.binary main_v30 main_v13 main_v31 (mulf : (⟨S2x6000, .f32⟩ : BufTy).Contents (Elt F) → (⟨S2x6000, .f32⟩ : BufTy).Contents (Elt F) → (⟨S2x6000, .f32⟩ : BufTy).Contents (Elt F)),
    StableHlo.binary main_v23 main_v31 main_v32 (addf : (⟨S2x6000, .f32⟩ : BufTy).Contents (Elt F) → (⟨S2x6000, .f32⟩ : BufTy).Contents (Elt F) → (⟨S2x6000, .f32⟩ : BufTy).Contents (Elt F)),
    StableHlo.unary main_v6 main_v33 ((extractStridedSlice S2x6000x1 ![0, 0, 1] · slices_S2x6000x4_S2x6000x1_0_0_1) : (⟨S2x6000x4, .f32⟩ : BufTy).Contents (Elt F) → (⟨S2x6000x1, .f32⟩ : BufTy).Contents (Elt F)),
    StableHlo.reshape main_v33 main_v34 (rfl : (.f32 : EltTy) = .f32) shapeCasts_S2x6000x1_S2x6000,
    StableHlo.binary main_v34 main_v18 main_v35 (mulf : (⟨S2x6000, .f32⟩ : BufTy).Contents (Elt F) → (⟨S2x6000, .f32⟩ : BufTy).Contents (Elt F) → (⟨S2x6000, .f32⟩ : BufTy).Contents (Elt F)),
    StableHlo.binary main_v28 main_v35 main_v36 (addf : (⟨S2x6000, .f32⟩ : BufTy).Contents (Elt F) → (⟨S2x6000, .f32⟩ : BufTy).Contents (Elt F) → (⟨S2x6000, .f32⟩ : BufTy).Contents (Elt F)),
    StableHlo.unary main_v6 main_v37 ((extractStridedSlice S2x6000x1 ![0, 0, 2] · slices_S2x6000x4_S2x6000x1_0_0_2) : (⟨S2x6000x4, .f32⟩ : BufTy).Contents (Elt F) → (⟨S2x6000x1, .f32⟩ : BufTy).Contents (Elt F)),
    StableHlo.reshape main_v37 main_v38 (rfl : (.f32 : EltTy) = .f32) shapeCasts_S2x6000x1_S2x6000,
    StableHlo.unary main_v38 main_v39 (Host.exp : (⟨S2x6000, .f32⟩ : BufTy).Contents (Elt F) → (⟨S2x6000, .f32⟩ : BufTy).Contents (Elt F)),
    StableHlo.binary main_v13 main_v39 main_v40 (mulf : (⟨S2x6000, .f32⟩ : BufTy).Contents (Elt F) → (⟨S2x6000, .f32⟩ : BufTy).Contents (Elt F) → (⟨S2x6000, .f32⟩ : BufTy).Contents (Elt F)),
    StableHlo.unary main_v6 main_v41 ((extractStridedSlice S2x6000x1 ![0, 0, 3] · slices_S2x6000x4_S2x6000x1_0_0_3) : (⟨S2x6000x4, .f32⟩ : BufTy).Contents (Elt F) → (⟨S2x6000x1, .f32⟩ : BufTy).Contents (Elt F)),
    StableHlo.reshape main_v41 main_v42 (rfl : (.f32 : EltTy) = .f32) shapeCasts_S2x6000x1_S2x6000,
    StableHlo.unary main_v42 main_v43 (Host.exp : (⟨S2x6000, .f32⟩ : BufTy).Contents (Elt F) → (⟨S2x6000, .f32⟩ : BufTy).Contents (Elt F)),
    StableHlo.binary main_v18 main_v43 main_v44 (mulf : (⟨S2x6000, .f32⟩ : BufTy).Contents (Elt F) → (⟨S2x6000, .f32⟩ : BufTy).Contents (Elt F) → (⟨S2x6000, .f32⟩ : BufTy).Contents (Elt F)),
    StableHlo.nullary main_cst_2 (constant S_ .f32 0x3F000000#32),
    StableHlo.unary main_cst_2 main_v45 (broadcastInDim S2x6000 ![] bcast_S_S2x6000 : (⟨S_, .f32⟩ : BufTy).Contents (Elt F) → (⟨S2x6000, .f32⟩ : BufTy).Contents (Elt F)),
    StableHlo.binary main_v45 main_v40 main_v46 (mulf : (⟨S2x6000, .f32⟩ : BufTy).Contents (Elt F) → (⟨S2x6000, .f32⟩ : BufTy).Contents (Elt F) → (⟨S2x6000, .f32⟩ : BufTy).Contents (Elt F)),
    StableHlo.binary main_v32 main_v46 main_v47 (subf : (⟨S2x6000, .f32⟩ : BufTy).Contents (Elt F) → (⟨S2x6000, .f32⟩ : BufTy).Contents (Elt F) → (⟨S2x6000, .f32⟩ : BufTy).Contents (Elt F)),
    StableHlo.nullary main_cst_3 (constant S_ .f32 0x3F000000#32),
    StableHlo.unary main_cst_3 main_v48 (broadcastInDim S2x6000 ![] bcast_S_S2x6000 : (⟨S_, .f32⟩ : BufTy).Contents (Elt F) → (⟨S2x6000, .f32⟩ : BufTy).Contents (Elt F)),
    StableHlo.binary main_v48 main_v44 main_v49 (mulf : (⟨S2x6000, .f32⟩ : BufTy).Contents (Elt F) → (⟨S2x6000, .f32⟩ : BufTy).Contents (Elt F) → (⟨S2x6000, .f32⟩ : BufTy).Contents (Elt F)),
    StableHlo.binary main_v36 main_v49 main_v50 (subf : (⟨S2x6000, .f32⟩ : BufTy).Contents (Elt F) → (⟨S2x6000, .f32⟩ : BufTy).Contents (Elt F) → (⟨S2x6000, .f32⟩ : BufTy).Contents (Elt F)),
    StableHlo.binary main_v47 main_v40 main_v51 (addf : (⟨S2x6000, .f32⟩ : BufTy).Contents (Elt F) → (⟨S2x6000, .f32⟩ : BufTy).Contents (Elt F) → (⟨S2x6000, .f32⟩ : BufTy).Contents (Elt F)),
    StableHlo.binary main_v50 main_v44 main_v52 (addf : (⟨S2x6000, .f32⟩ : BufTy).Contents (Elt F) → (⟨S2x6000, .f32⟩ : BufTy).Contents (Elt F) → (⟨S2x6000, .f32⟩ : BufTy).Contents (Elt F)),
    StableHlo.unary main_v47 main_v53 (broadcastInDim S2x6000x1 ![0, 1] bcast_S2x6000_S2x6000x1_0_1 : (⟨S2x6000, .f32⟩ : BufTy).Contents (Elt F) → (⟨S2x6000x1, .f32⟩ : BufTy).Contents (Elt F)),
    StableHlo.unary main_v50 main_v54 (broadcastInDim S2x6000x1 ![0, 1] bcast_S2x6000_S2x6000x1_0_1 : (⟨S2x6000, .f32⟩ : BufTy).Contents (Elt F) → (⟨S2x6000x1, .f32⟩ : BufTy).Contents (Elt F)),
    StableHlo.unary main_v51 main_v55 (broadcastInDim S2x6000x1 ![0, 1] bcast_S2x6000_S2x6000x1_0_1 : (⟨S2x6000, .f32⟩ : BufTy).Contents (Elt F) → (⟨S2x6000x1, .f32⟩ : BufTy).Contents (Elt F)),
    StableHlo.unary main_v52 main_v56 (broadcastInDim S2x6000x1 ![0, 1] bcast_S2x6000_S2x6000x1_0_1 : (⟨S2x6000, .f32⟩ : BufTy).Contents (Elt F) → (⟨S2x6000x1, .f32⟩ : BufTy).Contents (Elt F)),
    StableHlo.nary ![main_v53, main_v54, main_v55, main_v56] main_v57 (fun u => (concatenate S2x6000x4 2 [⟨S2x6000x1, (u 0 : (⟨S2x6000x1, .f32⟩ : BufTy).Contents (Elt F))⟩, ⟨S2x6000x1, (u 1 : (⟨S2x6000x1, .f32⟩ : BufTy).Contents (Elt F))⟩, ⟨S2x6000x1, (u 2 : (⟨S2x6000x1, .f32⟩ : BufTy).Contents (Elt F))⟩, ⟨S2x6000x1, (u 3 : (⟨S2x6000x1, .f32⟩ : BufTy).Contents (Elt F))⟩] concatenates_S2x6000x1_S2x6000x1_S2x6000x1_S2x6000x1_S2x6000x4_d2 : (⟨S2x6000x4, .f32⟩ : BufTy).Contents (Elt F))),
    StableHlo.nullary main_cst_4 (constant S_ .f32 0x3F800000#32),
    StableHlo.unary main_cst_4 main_v58 (broadcastInDim S2x6000x4 ![] bcast_S_S2x6000x4 : (⟨S_, .f32⟩ : BufTy).Contents (Elt F) → (⟨S2x6000x4, .f32⟩ : BufTy).Contents (Elt F)),
    StableHlo.binary main_v57 main_v58 main_v59 (minimumf : (⟨S2x6000x4, .f32⟩ : BufTy).Contents (Elt F) → (⟨S2x6000x4, .f32⟩ : BufTy).Contents (Elt F) → (⟨S2x6000x4, .f32⟩ : BufTy).Contents (Elt F)),
    StableHlo.nullary main_cst_5 (constant S_ .f32 0x00000000#32),
    StableHlo.unary main_cst_5 main_v60 (broadcastInDim S2x6000x4 ![] bcast_S_S2x6000x4 : (⟨S_, .f32⟩ : BufTy).Contents (Elt F) → (⟨S2x6000x4, .f32⟩ : BufTy).Contents (Elt F)),
    StableHlo.binary main_v59 main_v60 main_v61 (maximumf : (⟨S2x6000x4, .f32⟩ : BufTy).Contents (Elt F) → (⟨S2x6000x4, .f32⟩ : BufTy).Contents (Elt F) → (⟨S2x6000x4, .f32⟩ : BufTy).Contents (Elt F)),
    StableHlo.nullary main_c (constantI S_ 32 0#32),
    StableHlo.unary main_c main_v62 (broadcastInDim S1000x2x1 ![] bcast_S_S1000x2x1 : (⟨S_, .i32⟩ : BufTy).Contents (Elt F) → (⟨S1000x2x1, .i32⟩ : BufTy).Contents (Elt F)),
    StableHlo.nullary main_c_6 (constantI S_ 1 0#1),
    StableHlo.unary main_c_6 main_v63 (broadcastInDim S1000x2x1 ![] bcast_S_S1000x2x1 : (⟨S_, .i1⟩ : BufTy).Contents (Elt F) → (⟨S1000x2x1, .i1⟩ : BufTy).Contents (Elt F)),
    StableHlo.nullary main_c_7 (constantI S_ 32 0#32),
    StableHlo.unary main_v61 main_v64_0 id,
    StableHlo.unary main_c_7 main_v64_1 id,
    StableHlo.unary main_values main_v64_2 id,
    StableHlo.unary main_v62 main_v64_3 id,
    StableHlo.unary main_v63 main_v64_4 id ]

/-- These operations touch only buffers of the program. -/
theorem pre2_sub : (pre2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.nary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩

/-- The stretches before the loop, in order. -/
abbrev preI : List (List (HloOp τ sig (Elt F))) :=
  [ pre0,
    takeDeltaOps (.of main_v4) (.of main_v5) main_call0,
    pre1,
    takeAnchorOps (.of main_arg2) (.of main_v7) main_call1,
    pre2 ]

/-- These stretches are plain: they touch only buffers of the program. -/
theorem preI_plain : StableHlo.Plain (preI : List (List (HloOp τ sig (Elt F)))) :=
  .cons (pre0_sub) (.cons (takeDeltaOps_sub (.of main_v4) (.of main_v5) main_call0) (.cons (pre1_sub) (.cons (takeAnchorOps_sub (.of main_arg2) (.of main_v7) main_call1) (.cons (pre2_sub) (.nil)))))

/-- A stretch of operations of one trip. -/
abbrev trip0 : List (HloOp τ sig (Elt F)) :=
  [ StableHlo.unary main_while0b_v75 main_while0b_v76 (broadcastInDim S2x1 ![0] bcast_S2_S2x1_0 : (⟨S2, .i32⟩ : BufTy).Contents (Elt F) → (⟨S2x1, .i32⟩ : BufTy).Contents (Elt F)) ]

/-- These operations touch only buffers of the program. -/
theorem trip0_sub : (trip0 : List (HloOp τ sig (Elt F))).Forall fun op => op.bufs ⊆ StableHlo.tcRefs τ sig :=
  StableHlo.unary_bufs_sub ..

/-- A stretch of operations of one trip. -/
abbrev trip1 : List (HloOp τ sig (Elt F)) :=
  [ StableHlo.nullary main_while0b_cst_12 (constant S_ .f32 0xCCBEBC20#32),
    StableHlo.unary main_while0b_cst_12 main_while0b_v78 (broadcastInDim S2x1 ![] bcast_S_S2x1 : (⟨S_, .f32⟩ : BufTy).Contents (Elt F) → (⟨S2x1, .f32⟩ : BufTy).Contents (Elt F)),
    StableHlo.binary main_while0b_v77 main_while0b_v78 main_while0b_v79 (cmpf .ogt : (⟨S2x1, .f32⟩ : BufTy).Contents (Elt F) → (⟨S2x1, .f32⟩ : BufTy).Contents (Elt F) → (⟨S2x1, .i1⟩ : BufTy).Contents (Elt F)),
    StableHlo.unary main_while0b_v76 main_while0b_v80 (broadcastInDim S2x1x1 ![0, 1] bcast_S2x1_S2x1x1_0_1 : (⟨S2x1, .i32⟩ : BufTy).Contents (Elt F) → (⟨S2x1x1, .i32⟩ : BufTy).Contents (Elt F)) ]

/-- These operations touch only buffers of the program. -/
theorem trip1_sub : (trip1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub ..⟩

/-- A stretch of operations of one trip. -/
abbrev trip2 : List (HloOp τ sig (Elt F)) :=
  [ StableHlo.unary main_while0b_v81 main_while0b_v82 ((extractStridedSlice S2x1x1 ![0, 0, 0] · slices_S2x1x4_S2x1x1_0_0_0) : (⟨S2x1x4, .f32⟩ : BufTy).Contents (Elt F) → (⟨S2x1x1, .f32⟩ : BufTy).Contents (Elt F)),
    StableHlo.reshape main_while0b_v82 main_while0b_v83 (rfl : (.f32 : EltTy) = .f32) shapeCasts_S2x1x1_S2x1,
    StableHlo.unary main_v64_0 main_while0b_v84 ((extractStridedSlice S2x6000x1 ![0, 0, 0] · slices_S2x6000x4_S2x6000x1_0_0_0) : (⟨S2x6000x4, .f32⟩ : BufTy).Contents (Elt F) → (⟨S2x6000x1, .f32⟩ : BufTy).Contents (Elt F)),
    StableHlo.reshape main_while0b_v84 main_while0b_v85 (rfl : (.f32 : EltTy) = .f32) shapeCasts_S2x6000x1_S2x6000,
    StableHlo.unary main_while0b_v83 main_while0b_v86 (broadcastInDim S2x6000 ![0, 1] bcast_S2x1_S2x6000_0_1 : (⟨S2x1, .f32⟩ : BufTy).Contents (Elt F) → (⟨S2x6000, .f32⟩ : BufTy).Contents (Elt F)),
    StableHlo.binary main_while0b_v86 main_while0b_v85 main_while0b_v87 (maximumf : (⟨S2x6000, .f32⟩ : BufTy).Contents (Elt F) → (⟨S2x6000, .f32⟩ : BufTy).Contents (Elt F) → (⟨S2x6000, .f32⟩ : BufTy).Contents (Elt F)),
    StableHlo.unary main_while0b_v81 main_while0b_v88 ((extractStridedSlice S2x1x1 ![0, 0, 1] · slices_S2x1x4_S2x1x1_0_0_1) : (⟨S2x1x4, .f32⟩ : BufTy).Contents (Elt F) → (⟨S2x1x1, .f32⟩ : BufTy).Contents (Elt F)),
    StableHlo.reshape main_while0b_v88 main_while0b_v89 (rfl : (.f32 : EltTy) = .f32) shapeCasts_S2x1x1_S2x1,
    StableHlo.unary main_v64_0 main_while0b_v90 ((extractStridedSlice S2x6000x1 ![0, 0, 1] · slices_S2x6000x4_S2x6000x1_0_0_1) : (⟨S2x6000x4, .f32⟩ : BufTy).Contents (Elt F) → (⟨S2x6000x1, .f32⟩ : BufTy).Contents (Elt F)),
    StableHlo.reshape main_while0b_v90 main_while0b_v91 (rfl : (.f32 : EltTy) = .f32) shapeCasts_S2x6000x1_S2x6000,
    StableHlo.unary main_while0b_v89 main_while0b_v92 (broadcastInDim S2x6000 ![0, 1] bcast_S2x1_S2x6000_0_1 : (⟨S2x1, .f32⟩ : BufTy).Contents (Elt F) → (⟨S2x6000, .f32⟩ : BufTy).Contents (Elt F)),
    StableHlo.binary main_while0b_v92 main_while0b_v91 main_while0b_v93 (maximumf : (⟨S2x6000, .f32⟩ : BufTy).Contents (Elt F) → (⟨S2x6000, .f32⟩ : BufTy).Contents (Elt F) → (⟨S2x6000, .f32⟩ : BufTy).Contents (Elt F)),
    StableHlo.unary main_while0b_v81 main_while0b_v94 ((extractStridedSlice S2x1x1 ![0, 0, 2] · slices_S2x1x4_S2x1x1_0_0_2) : (⟨S2x1x4, .f32⟩ : BufTy).Contents (Elt F) → (⟨S2x1x1, .f32⟩ : BufTy).Contents (Elt F)),
    StableHlo.reshape main_while0b_v94 main_while0b_v95 (rfl : (.f32 : EltTy) = .f32) shapeCasts_S2x1x1_S2x1,
    StableHlo.unary main_v64_0 main_while0b_v96 ((extractStridedSlice S2x6000x1 ![0, 0, 2] · slices_S2x6000x4_S2x6000x1_0_0_2) : (⟨S2x6000x4, .f32⟩ : BufTy).Contents (Elt F) → (⟨S2x6000x1, .f32⟩ : BufTy).Contents (Elt F)),
    StableHlo.reshape main_while0b_v96 main_while0b_v97 (rfl : (.f32 : EltTy) = .f32) shapeCasts_S2x6000x1_S2x6000,
    StableHlo.unary main_while0b_v95 main_while0b_v98 (broadcastInDim S2x6000 ![0, 1] bcast_S2x1_S2x6000_0_1 : (⟨S2x1, .f32⟩ : BufTy).Contents (Elt F) → (⟨S2x6000, .f32⟩ : BufTy).Contents (Elt F)),
    StableHlo.binary main_while0b_v98 main_while0b_v97 main_while0b_v99 (minimumf : (⟨S2x6000, .f32⟩ : BufTy).Contents (Elt F) → (⟨S2x6000, .f32⟩ : BufTy).Contents (Elt F) → (⟨S2x6000, .f32⟩ : BufTy).Contents (Elt F)),
    StableHlo.unary main_while0b_v81 main_while0b_v100 ((extractStridedSlice S2x1x1 ![0, 0, 3] · slices_S2x1x4_S2x1x1_0_0_3) : (⟨S2x1x4, .f32⟩ : BufTy).Contents (Elt F) → (⟨S2x1x1, .f32⟩ : BufTy).Contents (Elt F)),
    StableHlo.reshape main_while0b_v100 main_while0b_v101 (rfl : (.f32 : EltTy) = .f32) shapeCasts_S2x1x1_S2x1,
    StableHlo.unary main_v64_0 main_while0b_v102 ((extractStridedSlice S2x6000x1 ![0, 0, 3] · slices_S2x6000x4_S2x6000x1_0_0_3) : (⟨S2x6000x4, .f32⟩ : BufTy).Contents (Elt F) → (⟨S2x6000x1, .f32⟩ : BufTy).Contents (Elt F)),
    StableHlo.reshape main_while0b_v102 main_while0b_v103 (rfl : (.f32 : EltTy) = .f32) shapeCasts_S2x6000x1_S2x6000,
    StableHlo.unary main_while0b_v101 main_while0b_v104 (broadcastInDim S2x6000 ![0, 1] bcast_S2x1_S2x6000_0_1 : (⟨S2x1, .f32⟩ : BufTy).Contents (Elt F) → (⟨S2x6000, .f32⟩ : BufTy).Contents (Elt F)),
    StableHlo.binary main_while0b_v104 main_while0b_v103 main_while0b_v105 (minimumf : (⟨S2x6000, .f32⟩ : BufTy).Contents (Elt F) → (⟨S2x6000, .f32⟩ : BufTy).Contents (Elt F) → (⟨S2x6000, .f32⟩ : BufTy).Contents (Elt F)),
    StableHlo.binary main_while0b_v99 main_while0b_v87 main_while0b_v106 (subf : (⟨S2x6000, .f32⟩ : BufTy).Contents (Elt F) → (⟨S2x6000, .f32⟩ : BufTy).Contents (Elt F) → (⟨S2x6000, .f32⟩ : BufTy).Contents (Elt F)),
    StableHlo.nullary main_while0b_cst_13 (constant S_ .f32 0x00000000#32),
    StableHlo.unary main_while0b_cst_13 main_while0b_v107 (broadcastInDim S2x6000 ![] bcast_S_S2x6000 : (⟨S_, .f32⟩ : BufTy).Contents (Elt F) → (⟨S2x6000, .f32⟩ : BufTy).Contents (Elt F)),
    StableHlo.binary main_while0b_v106 main_while0b_v107 main_while0b_v108 (maximumf : (⟨S2x6000, .f32⟩ : BufTy).Contents (Elt F) → (⟨S2x6000, .f32⟩ : BufTy).Contents (Elt F) → (⟨S2x6000, .f32⟩ : BufTy).Contents (Elt F)),
    StableHlo.binary main_while0b_v105 main_while0b_v93 main_while0b_v109 (subf : (⟨S2x6000, .f32⟩ : BufTy).Contents (Elt F) → (⟨S2x6000, .f32⟩ : BufTy).Contents (Elt F) → (⟨S2x6000, .f32⟩ : BufTy).Contents (Elt F)),
    StableHlo.nullary main_while0b_cst_14 (constant S_ .f32 0x00000000#32),
    StableHlo.unary main_while0b_cst_14 main_while0b_v110 (broadcastInDim S2x6000 ![] bcast_S_S2x6000 : (⟨S_, .f32⟩ : BufTy).Contents (Elt F) → (⟨S2x6000, .f32⟩ : BufTy).Contents (Elt F)),
    StableHlo.binary main_while0b_v109 main_while0b_v110 main_while0b_v111 (maximumf : (⟨S2x6000, .f32⟩ : BufTy).Contents (Elt F) → (⟨S2x6000, .f32⟩ : BufTy).Contents (Elt F) → (⟨S2x6000, .f32⟩ : BufTy).Contents (Elt F)),
    StableHlo.binary main_while0b_v108 main_while0b_v111 main_while0b_v112 (mulf : (⟨S2x6000, .f32⟩ : BufTy).Contents (Elt F) → (⟨S2x6000, .f32⟩ : BufTy).Contents (Elt F) → (⟨S2x6000, .f32⟩ : BufTy).Contents (Elt F)),
    StableHlo.unary main_while0b_v81 main_while0b_v113 ((extractStridedSlice S2x1x1 ![0, 0, 2] · slices_S2x1x4_S2x1x1_0_0_2) : (⟨S2x1x4, .f32⟩ : BufTy).Contents (Elt F) → (⟨S2x1x1, .f32⟩ : BufTy).Contents (Elt F)),
    StableHlo.reshape main_while0b_v113 main_while0b_v114 (rfl : (.f32 : EltTy) = .f32) shapeCasts_S2x1x1_S2x1,
    StableHlo.unary main_while0b_v81 main_while0b_v115 ((extractStridedSlice S2x1x1 ![0, 0, 0] · slices_S2x1x4_S2x1x1_0_0_0) : (⟨S2x1x4, .f32⟩ : BufTy).Contents (Elt F) → (⟨S2x1x1, .f32⟩ : BufTy).Contents (Elt F)),
    StableHlo.reshape main_while0b_v115 main_while0b_v116 (rfl : (.f32 : EltTy) = .f32) shapeCasts_S2x1x1_S2x1,
    StableHlo.binary main_while0b_v114 main_while0b_v116 main_while0b_v117 (subf : (⟨S2x1, .f32⟩ : BufTy).Contents (Elt F) → (⟨S2x1, .f32⟩ : BufTy).Contents (Elt F) → (⟨S2x1, .f32⟩ : BufTy).Contents (Elt F)),
    StableHlo.unary main_while0b_v81 main_while0b_v118 ((extractStridedSlice S2x1x1 ![0, 0, 3] · slices_S2x1x4_S2x1x1_0_0_3) : (⟨S2x1x4, .f32⟩ : BufTy).Contents (Elt F) → (⟨S2x1x1, .f32⟩ : BufTy).Contents (Elt F)),
    StableHlo.reshape main_while0b_v118 main_while0b_v119 (rfl : (.f32 : EltTy) = .f32) shapeCasts_S2x1x1_S2x1,
    StableHlo.unary main_while0b_v81 main_while0b_v120 ((extractStridedSlice S2x1x1 ![0, 0, 1] · slices_S2x1x4_S2x1x1_0_0_1) : (⟨S2x1x4, .f32⟩ : BufTy).Contents (Elt F) → (⟨S2x1x1, .f32⟩ : BufTy).Contents (Elt F)),
    StableHlo.reshape main_while0b_v120 main_while0b_v121 (rfl : (.f32 : EltTy) = .f32) shapeCasts_S2x1x1_S2x1,
    StableHlo.binary main_while0b_v119 main_while0b_v121 main_while0b_v122 (subf : (⟨S2x1, .f32⟩ : BufTy).Contents (Elt F) → (⟨S2x1, .f32⟩ : BufTy).Contents (Elt F) → (⟨S2x1, .f32⟩ : BufTy).Contents (Elt F)),
    StableHlo.binary main_while0b_v117 main_while0b_v122 main_while0b_v123 (mulf : (⟨S2x1, .f32⟩ : BufTy).Contents (Elt F) → (⟨S2x1, .f32⟩ : BufTy).Contents (Elt F) → (⟨S2x1, .f32⟩ : BufTy).Contents (Elt F)),
    StableHlo.unary main_v64_0 main_while0b_v124 ((extractStridedSlice S2x6000x1 ![0, 0, 2] · slices_S2x6000x4_S2x6000x1_0_0_2) : (⟨S2x6000x4, .f32⟩ : BufTy).Contents (Elt F) → (⟨S2x6000x1, .f32⟩ : BufTy).Contents (Elt F)),
    StableHlo.reshape main_while0b_v124 main_while0b_v125 (rfl : (.f32 : EltTy) = .f32) shapeCasts_S2x6000x1_S2x6000,
    StableHlo.unary main_v64_0 main_while0b_v126 ((extractStridedSlice S2x6000x1 ![0, 0, 0] · slices_S2x6000x4_S2x6000x1_0_0_0) : (⟨S2x6000x4, .f32⟩ : BufTy).Contents (Elt F) → (⟨S2x6000x1, .f32⟩ : BufTy).Contents (Elt F)),
    StableHlo.reshape main_while0b_v126 main_while0b_v127 (rfl : (.f32 : EltTy) = .f32) shapeCasts_S2x6000x1_S2x6000,
    StableHlo.binary main_while0b_v125 main_while0b_v127 main_while0b_v128 (subf : (⟨S2x6000, .f32⟩ : BufTy).Contents (Elt F) → (⟨S2x6000, .f32⟩ : BufTy).Contents (Elt F) → (⟨S2x6000, .f32⟩ : BufTy).Contents (Elt F)),
    StableHlo.unary main_v64_0 main_while0b_v129 ((extractStridedSlice S2x6000x1 ![0, 0, 3] · slices_S2x6000x4_S2x6000x1_0_0_3) : (⟨S2x6000x4, .f32⟩ : BufTy).Contents (Elt F) → (⟨S2x6000x1, .f32⟩ : BufTy).Contents (Elt F)),
    StableHlo.reshape main_while0b_v129 main_while0b_v130 (rfl : (.f32 : EltTy) = .f32) shapeCasts_S2x6000x1_S2x6000,
    StableHlo.unary main_v64_0 main_while0b_v131 ((extractStridedSlice S2x6000x1 ![0, 0, 1] · slices_S2x6000x4_S2x6000x1_0_0_1) : (⟨S2x6000x4, .f32⟩ : BufTy).Contents (Elt F) → (⟨S2x6000x1, .f32⟩ : BufTy).Contents (Elt F)),
    StableHlo.reshape main_while0b_v131 main_while0b_v132 (rfl : (.f32 : EltTy) = .f32) shapeCasts_S2x6000x1_S2x6000,
    StableHlo.binary main_while0b_v130 main_while0b_v132 main_while0b_v133 (subf : (⟨S2x6000, .f32⟩ : BufTy).Contents (Elt F) → (⟨S2x6000, .f32⟩ : BufTy).Contents (Elt F) → (⟨S2x6000, .f32⟩ : BufTy).Contents (Elt F)),
    StableHlo.binary main_while0b_v128 main_while0b_v133 main_while0b_v134 (mulf : (⟨S2x6000, .f32⟩ : BufTy).Contents (Elt F) → (⟨S2x6000, .f32⟩ : BufTy).Contents (Elt F) → (⟨S2x6000, .f32⟩ : BufTy).Contents (Elt F)),
    StableHlo.unary main_while0b_v123 main_while0b_v135 (broadcastInDim S2x6000 ![0, 1] bcast_S2x1_S2x6000_0_1 : (⟨S2x1, .f32⟩ : BufTy).Contents (Elt F) → (⟨S2x6000, .f32⟩ : BufTy).Contents (Elt F)),
    StableHlo.binary main_while0b_v135 main_while0b_v134 main_while0b_v136 (addf : (⟨S2x6000, .f32⟩ : BufTy).Contents (Elt F) → (⟨S2x6000, .f32⟩ : BufTy).Contents (Elt F) → (⟨S2x6000, .f32⟩ : BufTy).Contents (Elt F)),
    StableHlo.binary main_while0b_v136 main_while0b_v112 main_while0b_v137 (subf : (⟨S2x6000, .f32⟩ : BufTy).Contents (Elt F) → (⟨S2x6000, .f32⟩ : BufTy).Contents (Elt F) → (⟨S2x6000, .f32⟩ : BufTy).Contents (Elt F)),
    StableHlo.nullary main_while0b_cst_15 (constant S_ .f32 0x322BCC77#32),
    StableHlo.unary main_while0b_cst_15 main_while0b_v138 (broadcastInDim S2x6000 ![] bcast_S_S2x6000 : (⟨S_, .f32⟩ : BufTy).Contents (Elt F) → (⟨S2x6000, .f32⟩ : BufTy).Contents (Elt F)),
    StableHlo.binary main_while0b_v137 main_while0b_v138 main_while0b_v139 (addf : (⟨S2x6000, .f32⟩ : BufTy).Contents (Elt F) → (⟨S2x6000, .f32⟩ : BufTy).Contents (Elt F) → (⟨S2x6000, .f32⟩ : BufTy).Contents (Elt F)),
    StableHlo.binary main_while0b_v112 main_while0b_v139 main_while0b_v140 (Host.divf : (⟨S2x6000, .f32⟩ : BufTy).Contents (Elt F) → (⟨S2x6000, .f32⟩ : BufTy).Contents (Elt F) → (⟨S2x6000, .f32⟩ : BufTy).Contents (Elt F)),
    StableHlo.nullary main_while0b_cst_16 (constant S_ .f32 0x3F333333#32),
    StableHlo.unary main_while0b_cst_16 main_while0b_v141 (broadcastInDim S2x6000 ![] bcast_S_S2x6000 : (⟨S_, .f32⟩ : BufTy).Contents (Elt F) → (⟨S2x6000, .f32⟩ : BufTy).Contents (Elt F)),
    StableHlo.binary main_while0b_v140 main_while0b_v141 main_while0b_v142 (cmpf .ogt : (⟨S2x6000, .f32⟩ : BufTy).Contents (Elt F) → (⟨S2x6000, .f32⟩ : BufTy).Contents (Elt F) → (⟨S2x6000, .i1⟩ : BufTy).Contents (Elt F)),
    StableHlo.nullary main_while0b_v143 (iotaInDim S6000 32 0),
    StableHlo.unary main_while0b_v143 main_while0b_v144 (broadcastInDim S1x6000 ![1] bcast_S6000_S1x6000_1 : (⟨S6000, .i32⟩ : BufTy).Contents (Elt F) → (⟨S1x6000, .i32⟩ : BufTy).Contents (Elt F)),
    StableHlo.unary main_while0b_v144 main_while0b_v145 (broadcastInDim S2x6000 ![0, 1] bcast_S1x6000_S2x6000_0_1 : (⟨S1x6000, .i32⟩ : BufTy).Contents (Elt F) → (⟨S2x6000, .i32⟩ : BufTy).Contents (Elt F)),
    StableHlo.unary main_while0b_v76 main_while0b_v146 (broadcastInDim S2x6000 ![0, 1] bcast_S2x1_S2x6000_0_1 : (⟨S2x1, .i32⟩ : BufTy).Contents (Elt F) → (⟨S2x6000, .i32⟩ : BufTy).Contents (Elt F)),
    StableHlo.binary main_while0b_v145 main_while0b_v146 main_while0b_v147 (cmpi .eq : (⟨S2x6000, .i32⟩ : BufTy).Contents (Elt F) → (⟨S2x6000, .i32⟩ : BufTy).Contents (Elt F) → (⟨S2x6000, .i1⟩ : BufTy).Contents (Elt F)),
    StableHlo.binary main_while0b_v142 main_while0b_v147 main_while0b_v148 (ori : (⟨S2x6000, .i1⟩ : BufTy).Contents (Elt F) → (⟨S2x6000, .i1⟩ : BufTy).Contents (Elt F) → (⟨S2x6000, .i1⟩ : BufTy).Contents (Elt F)),
    StableHlo.nullary main_while0b_cst_17 (constant S_ .f32 0xCE6E6B28#32) ]

/-- These operations touch only buffers of the program. -/
theorem trip2_sub : (trip2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub ..⟩

/-- A stretch of operations of one trip. -/
abbrev trip3 : List (HloOp τ sig (Elt F)) :=
  [ StableHlo.nullary main_while0b_c_18 (constantI S_ 32 1#32),
    StableHlo.binary main_v64_1 main_while0b_c_18 main_while0b_v152 (addi : (⟨S_, .i32⟩ : BufTy).Contents (Elt F) → (⟨S_, .i32⟩ : BufTy).Contents (Elt F) → (⟨S_, .i32⟩ : BufTy).Contents (Elt F)),
    StableHlo.unary main_while0b_v152 main_v64_1 id,
    StableHlo.unary main_while0b_v149 main_v64_2 id,
    StableHlo.unary main_while0b_v150 main_v64_3 id,
    StableHlo.unary main_while0b_v151 main_v64_4 id ]

/-- These operations touch only buffers of the program. -/
theorem trip3_sub : (trip3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- The stretches of one trip, in order. -/
abbrev bodyI : List (List (HloOp τ sig (Elt F))) :=
  [ argmaxOps (.of main_v64_2) main_while0b_call2,
    trip0,
    takeScoreOps (.of main_v64_2) (.of main_while0b_v76) main_while0b_call3,
    trip1,
    takeBoxOps (.of main_v64_0) (.of main_while0b_v80) main_while0b_call4,
    trip2,
    whereOps (.of main_while0b_v148) (.of main_while0b_cst_17) (.of main_v64_2) main_while0b_call5,
    putIxOps (.of main_v64_3) (.of main_while0b_v76) (.of main_v64_1) main_while0b_call6,
    putOkOps (.of main_v64_4) (.of main_while0b_v79) (.of main_v64_1) main_while0b_call7,
    trip3 ]

/-- These stretches are plain: they touch only buffers of the program. -/
theorem bodyI_plain : StableHlo.Plain (bodyI : List (List (HloOp τ sig (Elt F)))) :=
  .cons (argmaxOps_sub (.of main_v64_2) main_while0b_call2) (.cons (trip0_sub) (.cons (takeScoreOps_sub (.of main_v64_2) (.of main_while0b_v76) main_while0b_call3) (.cons (trip1_sub) (.cons (takeBoxOps_sub (.of main_v64_0) (.of main_while0b_v80) main_while0b_call4) (.cons (trip2_sub) (.cons (whereOps_sub (.of main_while0b_v148) (.of main_while0b_cst_17) (.of main_v64_2) main_while0b_call5) (.cons (putIxOps_sub (.of main_v64_3) (.of main_while0b_v76) (.of main_v64_1) main_while0b_call6) (.cons (putOkOps_sub (.of main_v64_4) (.of main_while0b_v79) (.of main_v64_1) main_while0b_call7) (.cons (trip3_sub) (.nil))))))))))

/-- A stretch of operations after the loop. -/
abbrev post0 : List (HloOp τ sig (Elt F)) :=
  [ StableHlo.reshape main_v64_3 main_v65 (rfl : (.i32 : EltTy) = .i32) shapeCasts_S1000x2x1_S1000x2,
    StableHlo.unary main_v65 main_v66 ((transpose S2x1000 [1, 0] · transposes_S1000x2_S2x1000_1_0) : (⟨S1000x2, .i32⟩ : BufTy).Contents (Elt F) → (⟨S2x1000, .i32⟩ : BufTy).Contents (Elt F)),
    StableHlo.reshape main_v64_4 main_v67 (rfl : (.i1 : EltTy) = .i1) shapeCasts_S1000x2x1_S1000x2,
    StableHlo.unary main_v67 main_v68 ((transpose S2x1000 [1, 0] · transposes_S1000x2_S2x1000_1_0) : (⟨S1000x2, .i1⟩ : BufTy).Contents (Elt F) → (⟨S2x1000, .i1⟩ : BufTy).Contents (Elt F)),
    StableHlo.unary main_v66 main_v69 (broadcastInDim S2x1000x1 ![0, 1] bcast_S2x1000_S2x1000x1_0_1 : (⟨S2x1000, .i32⟩ : BufTy).Contents (Elt F) → (⟨S2x1000x1, .i32⟩ : BufTy).Contents (Elt F)) ]

/-- These operations touch only buffers of the program. -/
theorem post0_sub : (post0 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.unary_bufs_sub ..⟩

/-- A stretch of operations after the loop. -/
abbrev post1 : List (HloOp τ sig (Elt F)) :=
  [ StableHlo.unary main_v68 main_v71 (broadcastInDim S2x1000x1 ![0, 1] bcast_S2x1000_S2x1000x1_0_1 : (⟨S2x1000, .i1⟩ : BufTy).Contents (Elt F) → (⟨S2x1000x1, .i1⟩ : BufTy).Contents (Elt F)),
    StableHlo.unary main_v71 main_v72 (uitofp .f32 : (⟨S2x1000x1, .i1⟩ : BufTy).Contents (Elt F) → (⟨S2x1000x1, .f32⟩ : BufTy).Contents (Elt F)),
    StableHlo.unary main_v72 main_v73 (broadcastInDim S2x1000x4 ![0, 1, 2] bcast_S2x1000x1_S2x1000x4_0_1_2 : (⟨S2x1000x1, .f32⟩ : BufTy).Contents (Elt F) → (⟨S2x1000x4, .f32⟩ : BufTy).Contents (Elt F)),
    StableHlo.binary main_v70 main_v73 main_v74 (mulf : (⟨S2x1000x4, .f32⟩ : BufTy).Contents (Elt F) → (⟨S2x1000x4, .f32⟩ : BufTy).Contents (Elt F) → (⟨S2x1000x4, .f32⟩ : BufTy).Contents (Elt F)) ]

/-- These operations touch only buffers of the program. -/
theorem post1_sub : (post1 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub ..⟩

/-- The stretches after the loop, in order. -/
abbrev postI : List (List (HloOp τ sig (Elt F))) :=
  [ post0,
    takeRowOps (.of main_v61) (.of main_v69) main_call8,
    post1 ]

/-- These stretches are plain: they touch only buffers of the program. -/
theorem postI_plain : StableHlo.Plain (postI : List (List (HloOp τ sig (Elt F)))) :=
  .cons (post0_sub) (.cons (takeRowOps_sub (.of main_v61) (.of main_v69) main_call8) (.cons (post1_sub) (.nil)))

/-- The operations of the loop's test. -/
abbrev condOps : List (HloOp τ sig (Elt F)) :=
  [ StableHlo.nullary main_while0c_c_12 (constantI S_ 32 1000#32),
    StableHlo.binary main_v64_1 main_while0c_c_12 main_while0c_v75 (cmpi .slt : (⟨S_, .i32⟩ : BufTy).Contents (Elt F) → (⟨S_, .i32⟩ : BufTy).Contents (Elt F) → (⟨S_, .i1⟩ : BufTy).Contents (Elt F)) ]

end Cert.ReferenceIdeal.Hand

end

end
-- ==== Proof.RefRun.lean ====
/-
  The reference run: its loop makes a thousand trips, and at its end every buffer holds what its operations, taken in order, leave there.
-/
module

public import proofs.«01_k».proof.Proof.RefOps
public import Idealize.ShloMosaic.Lib.StableHlo.RunRead
public import Idealize.ShloMosaic.Lib.StableHlo.RunHlo
public import Idealize.ShloMosaic.Lib.Scf.ExitTest
public import Idealize.ShloMosaic.Lib.Scf.Counter
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.StableHlo (seq after afterL atTrip)
open Idealize.ShloMosaic.Pipeline (ucRefs)

variable {F : FTy → Type} [FloatOps F]

/-- The reference is its stretches before the loop, the loop, and its stretches after it. -/
theorem main_eq (c : Dev nD) : main (F := F) c = Pipeline.chain ((preI.map fun ops => (seq ops : Prog _ PUnit)) ++ HostLoop.enter 0 :: postI.map fun ops => (seq ops : Prog _ PUnit)) := by
  simp only [List.map_cons, List.map_nil, List.cons_append, List.nil_append]
  rewrite [StableHlo.chain_seq_cons, Pipeline.chain_cons, StableHlo.chain_seq_cons, Pipeline.chain_cons, StableHlo.chain_seq_cons, Pipeline.chain_cons, StableHlo.chain_seq_cons, Pipeline.chain_cons]
  chain_rfl

/-- One trip is its stretches in order. -/
theorem body_eq : main_while0_body (F := F) = Pipeline.chain (bodyI.map fun ops => (seq ops : Prog _ PUnit)) := by
  simp only [List.map_cons, List.map_nil]
  rewrite [Pipeline.chain_cons, StableHlo.chain_seq_cons, Pipeline.chain_cons, StableHlo.chain_seq_cons, Pipeline.chain_cons, StableHlo.chain_seq_cons, Pipeline.chain_cons, Pipeline.chain_cons, Pipeline.chain_cons]
  chain_rfl

/-- One trip's contents: the test's operations, then the trip's stretches. -/
def trip (V : Valuation τ sig (Elt F)) : Valuation τ sig (Elt F) := afterL bodyI (after condOps V)

/-- A trip adds one to the loop's counter. -/
theorem trip_ctr (V : Valuation τ sig (Elt F)) : trip V (Proc.devRef .tc main_v64_1) = addi (V (Proc.devRef .tc main_v64_1)) (constantI S_ 32 1#32) := by
  unfold trip
  rw [StableHlo.afterL_eq_after_flatten]
  after_reads_simp
  rfl

/-- A trip leaves the three arguments alone. -/
theorem trip_args (V : Valuation τ sig (Elt F)) : trip V (Proc.devRef .tc main_arg0) = V (Proc.devRef .tc main_arg0)
    ∧ trip V (Proc.devRef .tc main_arg1) = V (Proc.devRef .tc main_arg1) ∧ trip V (Proc.devRef .tc main_arg2) = V (Proc.devRef .tc main_arg2) := by
  unfold trip
  rw [StableHlo.afterL_eq_after_flatten]
  refine ⟨?_, ?_, ?_⟩ <;> after_reads_simp

/-- The contents before trip `k`, from those at the loop's entry. -/
def atK (V : Valuation τ sig (Elt F)) : ℕ → Valuation τ sig (Elt F)
  | 0 => V
  | k + 1 => trip (atK V k)

/-- The contents before a trip are those of the trips before it, one after the other. -/
theorem atTrip_eq (W : Dev nD → Valuation τ sig (Elt F)) (c : Dev nD) : ∀ k, atTrip condOps bodyI W k c = atK (W c) k
  | 0 => rfl
  | k + 1 => by rw [StableHlo.atTrip_succ, atTrip_eq W c k]; rfl

/-- The contents at the loop's entry. -/
def entry (V : Valuation τ sig (Elt F)) : Valuation τ sig (Elt F) := afterL preI V

/-- The contents at the end, from those after the loop's last test. -/
def ending (V : Valuation τ sig (Elt F)) : Valuation τ sig (Elt F) := afterL postI (after condOps V)

/-- The loop's counter before trip `k`. -/
theorem atK_ctr (V : Valuation τ sig (Elt F)) : ∀ k, atK (entry V) k (Proc.devRef .tc main_v64_1) = fun _ => Scf.iv 0#32 1#32 k
  | 0 => by
    rw [Scf.iv_zero]
    unfold atK entry
    rw [StableHlo.afterL_eq_after_flatten]
    after_reads_simp
    rfl
  | k + 1 => by
    unfold atK
    rw [trip_ctr, atK_ctr V k, Scf.iv_succ]
    rfl

/-- The stretches before the loop, the trips and the stretches after it leave the three arguments alone. -/
theorem atK_args (V : Valuation τ sig (Elt F)) : ∀ k, atK (entry V) k (Proc.devRef .tc main_arg0) = V (Proc.devRef .tc main_arg0)
    ∧ atK (entry V) k (Proc.devRef .tc main_arg1) = V (Proc.devRef .tc main_arg1) ∧ atK (entry V) k (Proc.devRef .tc main_arg2) = V (Proc.devRef .tc main_arg2)
  | 0 => by
    unfold atK entry
    rw [StableHlo.afterL_eq_after_flatten]
    refine ⟨?_, ?_, ?_⟩ <;> after_reads_simp
  | k + 1 => by
    unfold atK
    obtain ⟨h0, h1, h2⟩ := trip_args (atK (entry V) k)
    obtain ⟨g0, g1, g2⟩ := atK_args V k
    exact ⟨h0.trans g0, h1.trans g1, h2.trans g2⟩

/-- The stretches after the loop keep the arguments. -/
theorem ending_args (V : Valuation τ sig (Elt F)) : ending V (Proc.devRef .tc main_arg0) = V (Proc.devRef .tc main_arg0)
    ∧ ending V (Proc.devRef .tc main_arg1) = V (Proc.devRef .tc main_arg1) ∧ ending V (Proc.devRef .tc main_arg2) = V (Proc.devRef .tc main_arg2) := by
  unfold ending
  rw [StableHlo.afterL_eq_after_flatten]
  refine ⟨?_, ?_, ?_⟩ <;> after_reads_simp

/-- The loop has a thousand trips. -/
theorem trips_eq : Scf.trips 0#32 1000#32 1#32 = 1000 := by decide

set_option backward.isDefEq.respectTransparency false in
/-- The loop's test holds exactly before its first thousand trips. -/
theorem cond_spec [∀ e, Nonempty (Elt F e)] (m : (ℓ : Loc nD τ sig) → Buf (Elt F) ℓ) :
    StableHlo.CondSpec (pcfgs (F := F)) defs₀ loops main_while0_cond condOps bodyI (StableHlo.entryContents preI m) 1000 := by
  intro k hk c bd
  have hctr := atK_ctr (StableHlo.launchContents m c) k
  rw [atTrip_eq]
  rw [show StableHlo.entryContents preI m c = entry (StableHlo.launchContents m c) from rfl]
  generalize atK (entry (StableHlo.launchContents m c)) k = V at hctr ⊢
  simp only [main_while0_cond, bind_pure]
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ V main_v64_1 HostLoop.idx0)
        (HloOp.result _ V main_while0c_c_12 HostLoop.idx0) = 1#1) (k < 1000)
    rw [StableHlo.nullary_result_ne _ _ _ _ (by decide), StableHlo.nullary_result, hctr]
    have h := Scf.cmpi_slt_iv_ub_iff (lb := 0#32) (ub := 1000#32) (st := 1#32) main_while0_ok (k := k) (by rw [trips_eq]; exact hk)
    rw [trips_eq] at h
    exact h
  isplitl [Hb]; · iexact Hb
  rw [StableHlo.after_cons, StableHlo.after_cons, StableHlo.after_nil]; iexact Hh

variable [∀ e, Nonempty (Elt F e)] (m : (ℓ : Loc nD τ sig) → Buf (Elt F) ℓ) (ρ : Dev nD → PrngReg)

/-- The contents at the end of the reference, from those at its start. -/
def final (V : Valuation τ sig (Elt F)) : Valuation τ sig (Elt F) := ending (atK (entry V) 1000)

/-- The reference ends with every buffer holding what its operations leave there, and with every counter at zero. -/
theorem run_final : θ_run defs (onTc (τ := τ) main) ⟨m, fun _ => 0, ρ⟩
    (fun r => (∀ (c : Dev nD) (b : Ref sig .tc), (Proc.devRef .tc b : DevRef τ sig).isScoped = false →
      r.2.mem ((c.tc : Thread nD τ).loc b) = final (StableHlo.launchContents m c) (Proc.devRef .tc b)) ∧ r.2.sem = fun _ => 0) :=
  (θ_run defs _ _).mono (fun r h => ⟨fun c b hb => (h c b hb).trans (by unfold StableHlo.finalContents; rw [atTrip_eq]; rfl),
      sem_eq_zero_of_no_sems (by decide) r.2⟩)
    (StableHlo.run_loop (pcfgs (F := F)) defs₀ loops main 0 main_while0_cond main_while0_body rfl preI bodyI postI condOps
      preI_plain bodyI_plain postI_plain main_eq body_eq 1000 m ρ (cond_spec m))

/-- The whole program keeps the arguments. -/
theorem final_args (V : Valuation τ sig (Elt F)) : final V (Proc.devRef .tc main_arg0) = V (Proc.devRef .tc main_arg0)
    ∧ final V (Proc.devRef .tc main_arg1) = V (Proc.devRef .tc main_arg1) ∧ final V (Proc.devRef .tc main_arg2) = V (Proc.devRef .tc main_arg2) := by
  unfold final
  obtain ⟨h0, h1, h2⟩ := ending_args (atK (entry V) 1000)
  obtain ⟨g0, g1, g2⟩ := atK_args V 1000
  exact ⟨h0.trans g0, h1.trans g1, h2.trans g2⟩

end Cert.ReferenceIdeal.Hand

end

end
-- ==== Proof.RefRead.lean ====
/-
  The reference's buffers as functions of vectors: what its calls give, what one trip gives from the scores it finds, and what the
  stretches before and after the loop give.
-/
module

public import proofs.«01_k».proof.Proof.RefRun

@[expose] public section

set_option maxRecDepth 16384

noncomputable section

namespace Cert.ReferenceIdeal.Hand

open Cert.ReferenceIdeal Cert.ReferenceIdeal.Gen
open Idealize.ShloMosaic Idealize.ShloMosaic.TcCoe
open Idealize.ShloMosaic.StableHlo (after afterL)

variable {F : FTy → Type} [FloatOps F]

/-! ## The calls -/

/-- The rows of `x` at the positions `i`: a negative position counts from the end, and a row out of range is the filling value. -/
def takeAt (x : FVec F S2x261888x4 .f32) (i : IVec S2x6000x1 32) : FVec F S2x6000x4 .f32 :=
  let v4 := select (cmpi .slt i (broadcastInDim S2x6000x1 ![] bcast_S_S2x6000x1 (constantI S_ 32 0#32)))
    (addi i (broadcastInDim S2x6000x1 ![] bcast_S_S2x6000x1 (constantI S_ 32 261888#32))) i
  let ok := Host.reduce IntOp.andi (andi (cmpi .sge v4 (broadcastInDim S2x6000x1 ![] bcast_S_S2x6000x1 (constantI S_ 32 0#32)))
      (cmpi .sle v4 (broadcastInDim S2x6000x1 ![0, 1, 2] bcast_S1x1x1_S2x6000x1_0_1_2 (broadcastInDim S1x1x1 ![2] bcast_S1_S1x1x1_2 (constantI S1 32 261887#32)))))
    (constantI S_ 1 1#1) reducesTo_S2x6000x1_S2x6000_d2 h_S_
  select (broadcastInDim S2x6000x4 ![0, 1] bcast_S2x6000_S2x6000x4_0_1 ok) (Host.gather gather_S2x261888x4_S2x6000x1_S2x6000x4_2_1_0_0_1_2_114 x v4)
    (broadcastInDim S2x6000x4 ![] bcast_S_S2x6000x4 (constant S_ .f32 0x7FC00000#32))

/-- The score at the positions `i`. -/
def takeScore (x : FVec F S2x6000 .f32) (i : IVec S2x1 32) : FVec F S2x1 .f32 :=
  let v4 := select (cmpi .slt i (broadcastInDim S2x1 ![] bcast_S_S2x1 (constantI S_ 32 0#32)))
    (addi i (broadcastInDim S2x1 ![] bcast_S_S2x1 (constantI S_ 32 6000#32))) i
  let v5 : IVec S2x1x1 32 := shapeCast S2x1x1 v4 shapeCasts_S2x1_S2x1x1
  let ok := Host.reduce IntOp.andi (andi (cmpi .sge v5 (broadcastInDim S2x1x1 ![] bcast_S_S2x1x1 (constantI S_ 32 0#32)))
      (cmpi .sle v5 (broadcastInDim S2x1x1 ![0, 1, 2] bcast_S1x1x1_S2x1x1_0_1_2 (broadcastInDim S1x1x1 ![2] bcast_S1_S1x1x1_2 (constantI S1 32 5999#32)))))
    (constantI S_ 1 1#1) reducesTo_S2x1x1_S2x1_d2 h_S_
  select ok (Host.gather gather_S2x6000_S2x1x1_S2x1_n_1_0_0_1_2_11 x v5)
    (broadcastInDim S2x1 ![] bcast_S_S2x1 (constant S_ .f32 0x7FC00000#32))

/-- The box at the positions `i`. -/
def takeBox (x : FVec F S2x6000x4 .f32) (i : IVec S2x1x1 32) : FVec F S2x1x4 .f32 :=
  let v4 := select (cmpi .slt i (broadcastInDim S2x1x1 ![] bcast_S_S2x1x1 (constantI S_ 32 0#32)))
    (addi i (broadcastInDim S2x1x1 ![] bcast_S_S2x1x1 (constantI S_ 32 6000#32))) i
  let ok := Host.reduce IntOp.andi (andi (cmpi .sge v4 (broadcastInDim S2x1x1 ![] bcast_S_S2x1x1 (constantI S_ 32 0#32)))
      (cmpi .sle v4 (broadcastInDim S2x1x1 ![0, 1, 2] bcast_S1x1x1_S2x1x1_0_1_2 (broadcastInDim S1x1x1 ![2] bcast_S1_S1x1x1_2 (constantI S1 32 5999#32)))))
    (constantI S_ 1 1#1) reducesTo_S2x1x1_S2x1_d2 h_S_
  select (broadcastInDim S2x1x4 ![0, 1] bcast_S2x1_S2x1x4_0_1 ok) (Host.gather gather_S2x6000x4_S2x1x1_S2x1x4_2_1_0_0_1_2_114 x v4)
    (broadcastInDim S2x1x4 ![] bcast_S_S2x1x4 (constant S_ .f32 0x7FC00000#32))

/-- The boxes at the thousand positions `i`. -/
def takeRow (x : FVec F S2x6000x4 .f32) (i : IVec S2x1000x1 32) : FVec F S2x1000x4 .f32 :=
  let v4 := select (cmpi .slt i (broadcastInDim S2x1000x1 ![] bcast_S_S2x1000x1 (constantI S_ 32 0#32)))
    (addi i (broadcastInDim S2x1000x1 ![] bcast_S_S2x1000x1 (constantI S_ 32 6000#32))) i
  let ok := Host.reduce IntOp.andi (andi (cmpi .sge v4 (broadcastInDim S2x1000x1 ![] bcast_S_S2x1000x1 (constantI S_ 32 0#32)))
      (cmpi .sle v4 (broadcastInDim S2x1000x1 ![0, 1, 2] bcast_S1x1x1_S2x1000x1_0_1_2 (broadcastInDim S1x1x1 ![2] bcast_S1_S1x1x1_2 (constantI S1 32 5999#32)))))
    (constantI S_ 1 1#1) reducesTo_S2x1000x1_S2x1000_d2 h_S_
  select (broadcastInDim S2x1000x4 ![0, 1] bcast_S2x1000_S2x1000x4_0_1 ok) (Host.gather gather_S2x6000x4_S2x1000x1_S2x1000x4_2_1_0_0_1_2_114 x v4)
    (broadcastInDim S2x1000x4 ![] bcast_S_S2x1000x4 (constant S_ .f32 0x7FC00000#32))

/-- The position of the largest score, the first of several. -/
def bestAt (x : FVec F S2x6000 .f32) : IVec S2 32 := fun j =>
  (Host.argReduce reducer_argmax_f32_i32 x (iotaInDim S2x6000 32 1) (constant S_ .f32 0xFF800000#32) (constantI S_ 32 0#32) reducesTo_S2x6000_S2_d1 h_S_ j).2

/-- `x` with the entries of trip `k` replaced by `u`. -/
def putAt {α : Type} (x : S1000x2x1.Idx → α) (u : S2x1.Idx → α) (k : IVec S_ 32) : S1000x2x1.Idx → α :=
  Host.dynamicUpdateSlice x (broadcastInDim S1x2x1 ![1, 2] bcast_S2x1_S1x2x1_1_2 u)
    (fun a => ((![k, constantI S_ 32 0#32, constantI S_ 32 0#32] : Fin 3 → IVec S_ 32) a (Shape.Idx.first h_S_)).toInt) updateFits_S1000x2x1_S1x2x1

/-! ## The trip -/

/-- The column `c` of the boxes. -/
def col0 (B : FVec F S2x6000x4 .f32) : FVec F S2x6000 .f32 := shapeCast S2x6000 (extractStridedSlice S2x6000x1 ![0, 0, 0] B slices_S2x6000x4_S2x6000x1_0_0_0) shapeCasts_S2x6000x1_S2x6000
@[inherit_doc col0] def col1 (B : FVec F S2x6000x4 .f32) : FVec F S2x6000 .f32 := shapeCast S2x6000 (extractStridedSlice S2x6000x1 ![0, 0, 1] B slices_S2x6000x4_S2x6000x1_0_0_1) shapeCasts_S2x6000x1_S2x6000
@[inherit_doc col0] def col2 (B : FVec F S2x6000x4 .f32) : FVec F S2x6000 .f32 := shapeCast S2x6000 (extractStridedSlice S2x6000x1 ![0, 0, 2] B slices_S2x6000x4_S2x6000x1_0_0_2) shapeCasts_S2x6000x1_S2x6000
@[inherit_doc col0] def col3 (B : FVec F S2x6000x4 .f32) : FVec F S2x6000 .f32 := shapeCast S2x6000 (extractStridedSlice S2x6000x1 ![0, 0, 3] B slices_S2x6000x4_S2x6000x1_0_0_3) shapeCasts_S2x6000x1_S2x6000
/-- The coordinate of the chosen boxes. -/
def one0 (b : FVec F S2x1x4 .f32) : FVec F S2x1 .f32 := shapeCast S2x1 (extractStridedSlice S2x1x1 ![0, 0, 0] b slices_S2x1x4_S2x1x1_0_0_0) shapeCasts_S2x1x1_S2x1
@[inherit_doc one0] def one1 (b : FVec F S2x1x4 .f32) : FVec F S2x1 .f32 := shapeCast S2x1 (extractStridedSlice S2x1x1 ![0, 0, 1] b slices_S2x1x4_S2x1x1_0_0_1) shapeCasts_S2x1x1_S2x1
@[inherit_doc one0] def one2 (b : FVec F S2x1x4 .f32) : FVec F S2x1 .f32 := shapeCast S2x1 (extractStridedSlice S2x1x1 ![0, 0, 2] b slices_S2x1x4_S2x1x1_0_0_2) shapeCasts_S2x1x1_S2x1
@[inherit_doc one0] def one3 (b : FVec F S2x1x4 .f32) : FVec F S2x1 .f32 := shapeCast S2x1 (extractStridedSlice S2x1x1 ![0, 0, 3] b slices_S2x1x4_S2x1x1_0_0_3) shapeCasts_S2x1x1_S2x1
/-- A value for each image spread over that image's entries. -/
def spread {α : Type} (u : S2x1.Idx → α) : S2x6000.Idx → α := broadcastInDim S2x6000 ![0, 1] bcast_S2x1_S2x6000_0_1 u
/-- A number over all entries. -/
def fill (w : BitVec 32) : FVec F S2x6000 .f32 := broadcastInDim S2x6000 ![] bcast_S_S2x6000 (constant S_ .f32 w)

/-- The overlaps of the chosen boxes `b` with all boxes `B`. -/
def overlap (B : FVec F S2x6000x4 .f32) (b : FVec F S2x1x4 .f32) : FVec F S2x6000 .f32 :=
  mulf (maximumf (subf (minimumf (spread (one2 b)) (col2 B)) (maximumf (spread (one0 b)) (col0 B))) (fill 0x00000000#32))
    (maximumf (subf (minimumf (spread (one3 b)) (col3 B)) (maximumf (spread (one1 b)) (col1 B))) (fill 0x00000000#32))

/-- The entries that the chosen boxes `b` at positions `p` push down. -/
def pushed (B : FVec F S2x6000x4 .f32) (b : FVec F S2x1x4 .f32) (p : IVec S2x1 32) : IVec S2x6000 1 :=
  let sel := mulf (subf (one2 b) (one0 b)) (subf (one3 b) (one1 b))
  let area := mulf (subf (col2 B) (col0 B)) (subf (col3 B) (col1 B))
  ori (cmpf .ogt (Host.divf (overlap B b) (addf (subf (addf (spread sel) area) (overlap B b)) (fill 0x322BCC77#32))) (fill 0x3F333333#32))
    (cmpi .eq (broadcastInDim S2x6000 ![0, 1] bcast_S1x6000_S2x6000_0_1 (broadcastInDim S1x6000 ![1] bcast_S6000_S1x6000_1 (iotaInDim S6000 32 0))) (spread p))

/-- The chosen positions, from the scores. -/
def pos (s : FVec F S2x6000 .f32) : IVec S2x1 32 := broadcastInDim S2x1 ![0] bcast_S2_S2x1_0 (bestAt s)

/-- Whether the chosen scores count, from the scores. -/
def okAt (s : FVec F S2x6000 .f32) : IVec S2x1 1 :=
  cmpf .ogt (takeScore s (pos s)) (broadcastInDim S2x1 ![] bcast_S_S2x1 (constant S_ .f32 0xCCBEBC20#32))

/-- The scores after a trip, from the boxes and the scores before it. -/
def nextS (B : FVec F S2x6000x4 .f32) (s : FVec F S2x6000 .f32) : FVec F S2x6000 .f32 :=
  select (pushed B (takeBox B (broadcastInDim S2x1x1 ![0, 1] bcast_S2x1_S2x1x1_0_1 (pos s))) (pos s)) (fill 0xCE6E6B28#32) s

/-! ## Reading the stretches -/

/-- The first call gives the deltas at the positions. -/
theorem read_takeDelta (V : Valuation τ sig (Elt F)) :
    after (takeDeltaOps (.of main_v4) (.of main_v5) main_call0) V (Proc.devRef .tc main_v6) = takeAt (V (Proc.devRef .tc main_v4)) (V (Proc.devRef .tc main_v5)) := by
  after_reads_simp; rfl

/-- The second gives the anchors at the positions. -/
theorem read_takeAnchor (V : Valuation τ sig (Elt F)) :
    after (takeAnchorOps (.of main_arg2) (.of main_v7) main_call1) V (Proc.devRef .tc main_v8) = takeAt (V (Proc.devRef .tc main_arg2)) (V (Proc.devRef .tc main_v7)) := by
  after_reads_simp; rfl

/-- The trip's first call gives the best position. -/
theorem read_argmax (V : Valuation τ sig (Elt F)) :
    after (argmaxOps (.of main_v64_2) main_while0b_call2) V (Proc.devRef .tc main_while0b_v75) = bestAt (V (Proc.devRef .tc main_v64_2)) := by
  after_reads_simp; rfl

/-- The next gives the score there. -/
theorem read_takeScore (V : Valuation τ sig (Elt F)) :
    after (takeScoreOps (.of main_v64_2) (.of main_while0b_v76) main_while0b_call3) V (Proc.devRef .tc main_while0b_v77)
      = takeScore (V (Proc.devRef .tc main_v64_2)) (V (Proc.devRef .tc main_while0b_v76)) := by
  after_reads_simp; rfl

/-- The next gives the box there. -/
theorem read_takeBox (V : Valuation τ sig (Elt F)) :
    after (takeBoxOps (.of main_v64_0) (.of main_while0b_v80) main_while0b_call4) V (Proc.devRef .tc main_while0b_v81)
      = takeBox (V (Proc.devRef .tc main_v64_0)) (V (Proc.devRef .tc main_while0b_v80)) := by
  after_reads_simp; rfl

/-- The call after the loop gives the thousand boxes. -/
theorem read_takeRow (V : Valuation τ sig (Elt F)) :
    after (takeRowOps (.of main_v61) (.of main_v69) main_call8) V (Proc.devRef .tc main_v70) = takeRow (V (Proc.devRef .tc main_v61)) (V (Proc.devRef .tc main_v69)) := by
  after_reads_simp; rfl

/-- The call that puts the position. -/
theorem read_putIx (V : Valuation τ sig (Elt F)) :
    after (putIxOps (.of main_v64_3) (.of main_while0b_v76) (.of main_v64_1) main_while0b_call6) V (Proc.devRef .tc main_while0b_v150)
      = putAt (V (Proc.devRef .tc main_v64_3)) (V (Proc.devRef .tc main_while0b_v76)) (V (Proc.devRef .tc main_v64_1)) := by
  after_reads_simp
  refine congrArg (fun i => Host.dynamicUpdateSlice (V (Proc.devRef .tc main_v64_3)) (broadcastInDim S1x2x1 ![1, 2] bcast_S2x1_S1x2x1_1_2 (V (Proc.devRef .tc main_while0b_v76))) i
    updateFits_S1000x2x1_S1x2x1) (funext fun a => ?_)
  fin_cases a <;> dsimp only <;> after_reads_simp <;> rfl

/-- The call that puts the mark. -/
theorem read_putOk (V : Valuation τ sig (Elt F)) :
    after (putOkOps (.of main_v64_4) (.of main_while0b_v79) (.of main_v64_1) main_while0b_call7) V (Proc.devRef .tc main_while0b_v151)
      = putAt (V (Proc.devRef .tc main_v64_4)) (V (Proc.devRef .tc main_while0b_v79)) (V (Proc.devRef .tc main_v64_1)) := by
  after_reads_simp
  refine congrArg (fun i => Host.dynamicUpdateSlice (V (Proc.devRef .tc main_v64_4)) (broadcastInDim S1x2x1 ![1, 2] bcast_S2x1_S1x2x1_1_2 (V (Proc.devRef .tc main_while0b_v79))) i
    updateFits_S1000x2x1_S1x2x1) (funext fun a => ?_)
  fin_cases a <;> dsimp only <;> after_reads_simp <;> rfl

/-- The stretch that finds what is pushed down. -/
theorem read_pushed (V : Valuation τ sig (Elt F)) :
    after trip2 V (Proc.devRef .tc main_while0b_v148) = pushed (V (Proc.devRef .tc main_v64_0)) (V (Proc.devRef .tc main_while0b_v81)) (V (Proc.devRef .tc main_while0b_v76)) := by
  after_reads_simp; rfl

/-- The call that lowers the scores of it. -/
theorem read_where (V : Valuation τ sig (Elt F)) :
    after (whereOps (.of main_while0b_v148) (.of main_while0b_cst_17) (.of main_v64_2) main_while0b_call5) V (Proc.devRef .tc main_while0b_v149)
      = select (V (Proc.devRef .tc main_while0b_v148)) (broadcastInDim S2x6000 ![] bcast_S_S2x6000 (V (Proc.devRef .tc main_while0b_cst_17))) (V (Proc.devRef .tc main_v64_2)) := by
  after_reads_simp; rfl

/-- `V'` holds at the loop's buffers and at the boxes what `V` holds there. -/
structure Carried (V V' : Valuation τ sig (Elt F)) : Prop where
  v61 : V' (Proc.devRef .tc main_v61) = V (Proc.devRef .tc main_v61)
  c0 : V' (Proc.devRef .tc main_v64_0) = V (Proc.devRef .tc main_v64_0)
  c1 : V' (Proc.devRef .tc main_v64_1) = V (Proc.devRef .tc main_v64_1)
  c2 : V' (Proc.devRef .tc main_v64_2) = V (Proc.devRef .tc main_v64_2)
  c3 : V' (Proc.devRef .tc main_v64_3) = V (Proc.devRef .tc main_v64_3)
  c4 : V' (Proc.devRef .tc main_v64_4) = V (Proc.devRef .tc main_v64_4)

/-- Two stretches that keep the carried buffers keep them together. -/
theorem Carried.trans {V V' V'' : Valuation τ sig (Elt F)} (h : Carried V V') (g : Carried V' V'') : Carried V V'' :=
  ⟨g.v61.trans h.v61, g.c0.trans h.c0, g.c1.trans h.c1, g.c2.trans h.c2, g.c3.trans h.c3, g.c4.trans h.c4⟩

/-- The loop's test keeps the carried buffers. -/
theorem carried_cond (V : Valuation τ sig (Elt F)) : Carried V (after condOps V) := by constructor <;> after_reads_simp
/-- So does the search for the best. -/
theorem carried_argmax (V : Valuation τ sig (Elt F)) : Carried V (after (argmaxOps (.of main_v64_2) main_while0b_call2) V) := by
  constructor <;> after_reads_simp
/-- So does the first stretch of a trip. -/
theorem carried_trip0 (V : Valuation τ sig (Elt F)) : Carried V (after trip0 V) := by constructor <;> after_reads_simp
/-- So does the taking of the score. -/
theorem carried_takeScore (V : Valuation τ sig (Elt F)) :
    Carried V (after (takeScoreOps (.of main_v64_2) (.of main_while0b_v76) main_while0b_call3) V) := by
  constructor <;> after_reads_simp
/-- So does the second stretch. -/
theorem carried_trip1 (V : Valuation τ sig (Elt F)) : Carried V (after trip1 V) := by constructor <;> after_reads_simp
/-- So does the taking of the box. -/
theorem carried_takeBox (V : Valuation τ sig (Elt F)) :
    Carried V (after (takeBoxOps (.of main_v64_0) (.of main_while0b_v80) main_while0b_call4) V) := by
  constructor <;> after_reads_simp
/-- So does the third stretch. -/
theorem carried_trip2 (V : Valuation τ sig (Elt F)) : Carried V (after trip2 V) := by constructor <;> after_reads_simp
/-- So does the lowering. -/
theorem carried_where (V : Valuation τ sig (Elt F)) :
    Carried V (after (whereOps (.of main_while0b_v148) (.of main_while0b_cst_17) (.of main_v64_2) main_while0b_call5) V) := by
  constructor <;> after_reads_simp
/-- So does the putting of the position. -/
theorem carried_putIx (V : Valuation τ sig (Elt F)) :
    Carried V (after (putIxOps (.of main_v64_3) (.of main_while0b_v76) (.of main_v64_1) main_while0b_call6) V) := by
  constructor <;> after_reads_simp
/-- So does the putting of the mark. -/
theorem carried_putOk (V : Valuation τ sig (Elt F)) :
    Carried V (after (putOkOps (.of main_v64_4) (.of main_while0b_v79) (.of main_v64_1) main_while0b_call7) V) := by
  constructor <;> after_reads_simp

end Cert.ReferenceIdeal.Hand

end

end
-- ==== Proof.RefTrip.lean ====
/-
  One trip of the reference's loop as vectors, the contents at the loop's entry, and the result after it.
-/
module

public import proofs.«01_k».proof.Proof.RefRead

@[expose] public section

set_option maxRecDepth 16384

noncomputable section

namespace Cert.ReferenceIdeal.Hand

open Cert.ReferenceIdeal Cert.ReferenceIdeal.Gen
open Idealize.ShloMosaic Idealize.ShloMosaic.TcCoe
open Idealize.ShloMosaic.StableHlo (after afterL)

variable {F : FTy → Type} [FloatOps F]

/-- The contents before a trip's choice is taken. -/
def mid (V : Valuation τ sig (Elt F)) : Valuation τ sig (Elt F) :=
  after trip1 (after (takeScoreOps (.of main_v64_2) (.of main_while0b_v76) main_while0b_call3) (after trip0
    (after (argmaxOps (.of main_v64_2) main_while0b_call2) (after condOps V))))

/-- The first half of a trip keeps the carried buffers. -/
theorem mid_carried (V : Valuation τ sig (Elt F)) : Carried V (mid V) :=
  (carried_cond V).trans ((carried_argmax _).trans ((carried_trip0 _).trans ((carried_takeScore _).trans (carried_trip1 _))))

/-- After the choice the positions and the marks are those of the scores. -/
theorem mid_reads (V : Valuation τ sig (Elt F)) :
    mid V (Proc.devRef .tc main_while0b_v76) = pos (V (Proc.devRef .tc main_v64_2)) ∧ mid V (Proc.devRef .tc main_while0b_v79) = okAt (V (Proc.devRef .tc main_v64_2))
    ∧ mid V (Proc.devRef .tc main_while0b_v80) = broadcastInDim S2x1x1 ![0, 1] bcast_S2x1_S2x1x1_0_1 (pos (V (Proc.devRef .tc main_v64_2))) := by
  unfold mid
  have e : Carried V _ := (carried_cond V).trans (carried_argmax _)
  have h75 := read_argmax (after condOps V)
  rw [(carried_cond V).c2] at h75
  generalize after (argmaxOps (.of main_v64_2) main_while0b_call2) (after condOps V) = V2 at e h75 ⊢
  have h76 : after trip0 V2 (Proc.devRef .tc main_while0b_v76) = pos (V (Proc.devRef .tc main_v64_2)) := by
    after_reads_simp; rw [h75]; rfl
  have e := e.trans (carried_trip0 _)
  generalize after trip0 V2 = V3 at e h76 ⊢
  have h77 := read_takeScore V3
  rw [e.c2, h76] at h77
  have h76' : after (takeScoreOps (.of main_v64_2) (.of main_while0b_v76) main_while0b_call3) V3 (Proc.devRef .tc main_while0b_v76) = pos (V (Proc.devRef .tc main_v64_2)) := by
    after_reads_simp; exact h76
  generalize after (takeScoreOps (.of main_v64_2) (.of main_while0b_v76) main_while0b_call3) V3 = V4 at h77 h76' ⊢
  refine ⟨?_, ?_, ?_⟩
  · after_reads_simp; exact h76'
  · after_reads_simp; rw [h77]; rfl
  · after_reads_simp; rw [h76']

/-- The contents at a trip's end, from those before its choice is taken. -/
def tail (W : Valuation τ sig (Elt F)) : Valuation τ sig (Elt F) :=
  after trip3 (after (putOkOps (.of main_v64_4) (.of main_while0b_v79) (.of main_v64_1) main_while0b_call7)
    (after (putIxOps (.of main_v64_3) (.of main_while0b_v76) (.of main_v64_1) main_while0b_call6)
    (after (whereOps (.of main_while0b_v148) (.of main_while0b_cst_17) (.of main_v64_2) main_while0b_call5)
    (after trip2 (after (takeBoxOps (.of main_v64_0) (.of main_while0b_v80) main_while0b_call4) W)))))

/-- A trip is its two halves. -/
theorem trip_eq (V : Valuation τ sig (Elt F)) : trip V = tail (mid V) := by
  unfold trip tail mid
  simp only [StableHlo.afterL_cons, StableHlo.afterL_nil]

/-- The rest of a trip, as vectors. -/
theorem tail_reads (W : Valuation τ sig (Elt F)) :
    tail W (Proc.devRef .tc main_v61) = W (Proc.devRef .tc main_v61) ∧ tail W (Proc.devRef .tc main_v64_0) = W (Proc.devRef .tc main_v64_0)
    ∧ tail W (Proc.devRef .tc main_v64_2) = select (pushed (W (Proc.devRef .tc main_v64_0)) (takeBox (W (Proc.devRef .tc main_v64_0)) (W (Proc.devRef .tc main_while0b_v80))) (W (Proc.devRef .tc main_while0b_v76)))
        (fill 0xCE6E6B28#32) (W (Proc.devRef .tc main_v64_2))
    ∧ tail W (Proc.devRef .tc main_v64_3) = putAt (W (Proc.devRef .tc main_v64_3)) (W (Proc.devRef .tc main_while0b_v76)) (W (Proc.devRef .tc main_v64_1))
    ∧ tail W (Proc.devRef .tc main_v64_4) = putAt (W (Proc.devRef .tc main_v64_4)) (W (Proc.devRef .tc main_while0b_v79)) (W (Proc.devRef .tc main_v64_1)) := by
  unfold tail
  have e := carried_takeBox W
  have h81 := read_takeBox W
  have h76 : after (takeBoxOps (.of main_v64_0) (.of main_while0b_v80) main_while0b_call4) W (Proc.devRef .tc main_while0b_v76) = W (Proc.devRef .tc main_while0b_v76) := by after_reads_simp
  have h79 : after (takeBoxOps (.of main_v64_0) (.of main_while0b_v80) main_while0b_call4) W (Proc.devRef .tc main_while0b_v79) = W (Proc.devRef .tc main_while0b_v79) := by after_reads_simp
  generalize after (takeBoxOps (.of main_v64_0) (.of main_while0b_v80) main_while0b_call4) W = V1 at e h81 h76 h79 ⊢
  have h148 := read_pushed V1
  rw [e.c0, h81, h76] at h148
  have hc : after trip2 V1 (Proc.devRef .tc main_while0b_cst_17) = constant S_ .f32 0xCE6E6B28#32 := by after_reads_simp
  have g76 : after trip2 V1 (Proc.devRef .tc main_while0b_v76) = W (Proc.devRef .tc main_while0b_v76) := by after_reads_simp; exact h76
  have g79 : after trip2 V1 (Proc.devRef .tc main_while0b_v79) = W (Proc.devRef .tc main_while0b_v79) := by after_reads_simp; exact h79
  have e := e.trans (carried_trip2 V1)
  clear h81 h76 h79
  generalize after trip2 V1 = V2 at e h148 hc g76 g79 ⊢
  have h149 := read_where V2
  rw [h148, hc, e.c2] at h149
  have h76 : after (whereOps (.of main_while0b_v148) (.of main_while0b_cst_17) (.of main_v64_2) main_while0b_call5) V2 (Proc.devRef .tc main_while0b_v76) = W (Proc.devRef .tc main_while0b_v76) := by
    after_reads_simp; exact g76
  have h79 : after (whereOps (.of main_while0b_v148) (.of main_while0b_cst_17) (.of main_v64_2) main_while0b_call5) V2 (Proc.devRef .tc main_while0b_v79) = W (Proc.devRef .tc main_while0b_v79) := by
    after_reads_simp; exact g79
  have e := e.trans (carried_where V2)
  clear h148 hc g76 g79
  generalize after (whereOps (.of main_while0b_v148) (.of main_while0b_cst_17) (.of main_v64_2) main_while0b_call5) V2 = V3 at e h149 h76 h79 ⊢
  have h150 := read_putIx V3
  rw [e.c3, h76, e.c1] at h150
  have g149 : after (putIxOps (.of main_v64_3) (.of main_while0b_v76) (.of main_v64_1) main_while0b_call6) V3 (Proc.devRef .tc main_while0b_v149) = V3 (Proc.devRef .tc main_while0b_v149) := by
    after_reads_simp
  have g79 : after (putIxOps (.of main_v64_3) (.of main_while0b_v76) (.of main_v64_1) main_while0b_call6) V3 (Proc.devRef .tc main_while0b_v79) = W (Proc.devRef .tc main_while0b_v79) := by
    after_reads_simp; exact h79
  have e := e.trans (carried_putIx V3)
  generalize after (putIxOps (.of main_v64_3) (.of main_while0b_v76) (.of main_v64_1) main_while0b_call6) V3 = V4 at e h150 g149 g79 ⊢
  have h151 := read_putOk V4
  rw [e.c4, g79, e.c1] at h151
  have f149 : after (putOkOps (.of main_v64_4) (.of main_while0b_v79) (.of main_v64_1) main_while0b_call7) V4 (Proc.devRef .tc main_while0b_v149) = V4 (Proc.devRef .tc main_while0b_v149) := by
    after_reads_simp
  have f150 : after (putOkOps (.of main_v64_4) (.of main_while0b_v79) (.of main_v64_1) main_while0b_call7) V4 (Proc.devRef .tc main_while0b_v150) = V4 (Proc.devRef .tc main_while0b_v150) := by
    after_reads_simp
  have e := e.trans (carried_putOk V4)
  generalize after (putOkOps (.of main_v64_4) (.of main_while0b_v79) (.of main_v64_1) main_while0b_call7) V4 = V5 at e h151 f149 f150 ⊢
  refine ⟨?_, ?_, ?_, ?_, ?_⟩
  · after_reads_simp; exact e.v61
  · after_reads_simp; exact e.c0
  · after_reads_simp; exact (f149.trans g149).trans h149
  · after_reads_simp; exact f150.trans h150
  · after_reads_simp; exact h151

/-- One trip, as vectors: the boxes stay; the scores move on; the trip's positions and marks are put at the trip's place. -/
theorem trip_reads (V : Valuation τ sig (Elt F)) :
    trip V (Proc.devRef .tc main_v61) = V (Proc.devRef .tc main_v61) ∧ trip V (Proc.devRef .tc main_v64_0) = V (Proc.devRef .tc main_v64_0)
    ∧ trip V (Proc.devRef .tc main_v64_2) = nextS (V (Proc.devRef .tc main_v64_0)) (V (Proc.devRef .tc main_v64_2))
    ∧ trip V (Proc.devRef .tc main_v64_3) = putAt (V (Proc.devRef .tc main_v64_3)) (pos (V (Proc.devRef .tc main_v64_2))) (V (Proc.devRef .tc main_v64_1))
    ∧ trip V (Proc.devRef .tc main_v64_4) = putAt (V (Proc.devRef .tc main_v64_4)) (okAt (V (Proc.devRef .tc main_v64_2))) (V (Proc.devRef .tc main_v64_1)) := by
  obtain ⟨h76, h79, h80⟩ := mid_reads V
  obtain ⟨e61, e0, e1, e2, e3, e4⟩ := mid_carried V
  obtain ⟨t61, t0, t2, t3, t4⟩ := tail_reads (mid V)
  rw [trip_eq]
  refine ⟨t61.trans e61, t0.trans e0, t2.trans ?_, t3.trans ?_, t4.trans ?_⟩
  · rw [e0, e2, h80, h76]; rfl
  · rw [e3, e1, h76]
  · rw [e4, e1, h79]

/-! ## Before the loop and after it -/

/-- The scores that both programs rank. -/
def scores (x : FVec F S2x261888x2 .f32) : FVec F S2x261888 .f32 :=
  shapeCast S2x261888 (extractStridedSlice S2x261888x1 ![0, 0, 1] x slices_S2x261888x2_S2x261888x1_0_0_1) shapeCasts_S2x261888x1_S2x261888

/-- The six thousand largest scores and their positions. -/
def topS (x : FVec F S2x261888x2 .f32) : FVec F S2x6000 .f32 := (Host.topK S2x6000 1 (FloatOps.cmpfTotal .gt) (scores x) sliceFits_S2x261888_S2x6000).1
@[inherit_doc topS] def topI (x : FVec F S2x261888x2 .f32) : IVec S2x6000 32 :=
  (Host.topK S2x6000 1 (FloatOps.cmpfTotal .gt) (scores x) sliceFits_S2x261888_S2x6000).2
/-- Positions with a last axis of one. -/
def lift1 (i : IVec S2x6000 32) : IVec S2x6000x1 32 := broadcastInDim S2x6000x1 ![0, 1] bcast_S2x6000_S2x6000x1_0_1 i
/-- The deltas, each scaled. -/
def scaled (x : FVec F S2x261888x4 .f32) : FVec F S2x261888x4 .f32 :=
  mulf x (broadcastInDim S2x261888x4 ![0, 1, 2] bcast_S1x1x4_S2x261888x4_0_1_2
    (shapeCast S1x1x4 (fun i => FloatOps.ofBits .f32 (lit0 (S4.rowMajor i))) shapeCasts_S4_S1x1x4))

/-- The clipped boxes, from the chosen deltas `D` and anchors `A`. -/
def boxes (D A : FVec F S2x6000x4 .f32) : FVec F S2x6000x4 .f32 :=
  let h := subf (col2 A) (col0 A)
  let w := subf (col3 A) (col1 A)
  let cy := addf (addf (col0 A) (mulf (fill 0x3F000000#32) h)) (mulf (col0 D) h)
  let cx := addf (addf (col1 A) (mulf (fill 0x3F000000#32) w)) (mulf (col1 D) w)
  let hh := mulf h (Host.exp (col2 D))
  let ww := mulf w (Host.exp (col3 D))
  let y1 := subf cy (mulf (fill 0x3F000000#32) hh)
  let x1 := subf cx (mulf (fill 0x3F000000#32) ww)
  let y2 := addf y1 hh
  let x2 := addf x1 ww
  let l := broadcastInDim S2x6000x1 ![0, 1] bcast_S2x6000_S2x6000x1_0_1
  maximumf (minimumf (concatenate S2x6000x4 2 [⟨S2x6000x1, l y1⟩, ⟨S2x6000x1, l x1⟩, ⟨S2x6000x1, l y2⟩, ⟨S2x6000x1, l x2⟩] concatenates_S2x6000x1_S2x6000x1_S2x6000x1_S2x6000x1_S2x6000x4_d2)
    (broadcastInDim S2x6000x4 ![] bcast_S_S2x6000x4 (constant S_ .f32 0x3F800000#32)))
    (broadcastInDim S2x6000x4 ![] bcast_S_S2x6000x4 (constant S_ .f32 0x00000000#32))

/-- The chosen deltas and anchors, and the boxes of them. -/
def chosenD (x : FVec F S2x261888x2 .f32) (d : FVec F S2x261888x4 .f32) : FVec F S2x6000x4 .f32 := takeAt (scaled d) (lift1 (topI x))
@[inherit_doc chosenD] def chosenA (x : FVec F S2x261888x2 .f32) (a : FVec F S2x261888x4 .f32) : FVec F S2x6000x4 .f32 := takeAt a (lift1 (topI x))
@[inherit_doc chosenD] def chosenB (x : FVec F S2x261888x2 .f32) (d a : FVec F S2x261888x4 .f32) : FVec F S2x6000x4 .f32 := boxes (chosenD x d) (chosenA x a)

/-- The last stretch before the loop gives the boxes, twice, and the scores. -/
theorem read_pre2 (V : Valuation τ sig (Elt F)) :
    after pre2 V (Proc.devRef .tc main_v61) = boxes (V (Proc.devRef .tc main_v6)) (V (Proc.devRef .tc main_v8)) ∧ after pre2 V (Proc.devRef .tc main_v64_0) = boxes (V (Proc.devRef .tc main_v6)) (V (Proc.devRef .tc main_v8))
    ∧ after pre2 V (Proc.devRef .tc main_v64_2) = V (Proc.devRef .tc main_values) := by
  refine ⟨?_, ?_, ?_⟩ <;> after_reads_simp <;> rfl

/-- At the loop's entry the boxes and the scores are the chosen ones. -/
theorem entry_reads (V : Valuation τ sig (Elt F)) :
    entry V (Proc.devRef .tc main_v61) = chosenB (V (Proc.devRef .tc main_arg0)) (V (Proc.devRef .tc main_arg1)) (V (Proc.devRef .tc main_arg2))
    ∧ entry V (Proc.devRef .tc main_v64_0) = chosenB (V (Proc.devRef .tc main_arg0)) (V (Proc.devRef .tc main_arg1)) (V (Proc.devRef .tc main_arg2))
    ∧ entry V (Proc.devRef .tc main_v64_2) = topS (V (Proc.devRef .tc main_arg0)) := by
  unfold entry
  simp only [StableHlo.afterL_cons, StableHlo.afterL_nil]
  have h4 : after pre0 V (Proc.devRef .tc main_v4) = scaled (V (Proc.devRef .tc main_arg1)) := by after_reads_simp; rfl
  have h5 : after pre0 V (Proc.devRef .tc main_v5) = lift1 (topI (V (Proc.devRef .tc main_arg0))) := by after_reads_simp; rfl
  have hv : after pre0 V (Proc.devRef .tc main_values) = topS (V (Proc.devRef .tc main_arg0)) := by after_reads_simp; rfl
  have hi : after pre0 V (Proc.devRef .tc main_indices) = topI (V (Proc.devRef .tc main_arg0)) := by after_reads_simp; rfl
  have ha : after pre0 V (Proc.devRef .tc main_arg2) = V (Proc.devRef .tc main_arg2) := by after_reads_simp
  generalize after pre0 V = V1 at h4 h5 hv hi ha ⊢
  have h6 := read_takeDelta V1
  rw [h4, h5] at h6
  have gv : after (takeDeltaOps (.of main_v4) (.of main_v5) main_call0) V1 (Proc.devRef .tc main_values) = topS (V (Proc.devRef .tc main_arg0)) := by after_reads_simp; exact hv
  have gi : after (takeDeltaOps (.of main_v4) (.of main_v5) main_call0) V1 (Proc.devRef .tc main_indices) = topI (V (Proc.devRef .tc main_arg0)) := by after_reads_simp; exact hi
  have ga : after (takeDeltaOps (.of main_v4) (.of main_v5) main_call0) V1 (Proc.devRef .tc main_arg2) = V (Proc.devRef .tc main_arg2) := by after_reads_simp; exact ha
  clear h4 h5 hv hi ha
  generalize after (takeDeltaOps (.of main_v4) (.of main_v5) main_call0) V1 = V2 at h6 gv gi ga ⊢
  have h7 : after pre1 V2 (Proc.devRef .tc main_v7) = lift1 (topI (V (Proc.devRef .tc main_arg0))) := by after_reads_simp; rw [gi]; rfl
  have g6 : after pre1 V2 (Proc.devRef .tc main_v6) = chosenD (V (Proc.devRef .tc main_arg0)) (V (Proc.devRef .tc main_arg1)) := by after_reads_simp; exact h6
  have hv : after pre1 V2 (Proc.devRef .tc main_values) = topS (V (Proc.devRef .tc main_arg0)) := by after_reads_simp; exact gv
  have ha : after pre1 V2 (Proc.devRef .tc main_arg2) = V (Proc.devRef .tc main_arg2) := by after_reads_simp; exact ga
  clear h6 gv gi ga
  generalize after pre1 V2 = V3 at h7 g6 hv ha ⊢
  have h8 := read_takeAnchor V3
  rw [ha, h7] at h8
  have h6 : after (takeAnchorOps (.of main_arg2) (.of main_v7) main_call1) V3 (Proc.devRef .tc main_v6) = chosenD (V (Proc.devRef .tc main_arg0)) (V (Proc.devRef .tc main_arg1)) := by
    after_reads_simp; exact g6
  have gv : after (takeAnchorOps (.of main_arg2) (.of main_v7) main_call1) V3 (Proc.devRef .tc main_values) = topS (V (Proc.devRef .tc main_arg0)) := by after_reads_simp; exact hv
  generalize after (takeAnchorOps (.of main_arg2) (.of main_v7) main_call1) V3 = V4 at h6 h8 gv ⊢
  obtain ⟨r1, r2, r3⟩ := read_pre2 V4
  refine ⟨r1.trans ?_, r2.trans ?_, r3.trans gv⟩ <;> rw [h6, h8] <;> rfl

/-- The result, from the boxes and the positions and marks that the trips have put. -/
def result (B : FVec F S2x6000x4 .f32) (P : IVec S1000x2x1 32) (M : IVec S1000x2x1 1) : FVec F S2x1000x4 .f32 :=
  let p : IVec S1000x2 32 := shapeCast S1000x2 P shapeCasts_S1000x2x1_S1000x2
  let k : IVec S1000x2 1 := shapeCast S1000x2 M shapeCasts_S1000x2x1_S1000x2
  mulf (takeRow B (broadcastInDim S2x1000x1 ![0, 1] bcast_S2x1000_S2x1000x1_0_1 (transpose S2x1000 [1, 0] p transposes_S1000x2_S2x1000_1_0)))
    (broadcastInDim S2x1000x4 ![0, 1, 2] bcast_S2x1000x1_S2x1000x4_0_1_2
      (uitofp .f32 (broadcastInDim S2x1000x1 ![0, 1] bcast_S2x1000_S2x1000x1_0_1 (transpose S2x1000 [1, 0] k transposes_S1000x2_S2x1000_1_0))))

/-- What the stretches after the loop leave in the result's buffer. -/
theorem ending_reads (V : Valuation τ sig (Elt F)) :
    ending V (Proc.devRef .tc main_v74) = result (V (Proc.devRef .tc main_v61)) (V (Proc.devRef .tc main_v64_3)) (V (Proc.devRef .tc main_v64_4)) := by
  unfold ending
  simp only [StableHlo.afterL_cons, StableHlo.afterL_nil]
  have e := carried_cond V
  generalize after condOps V = V1 at e ⊢
  have h69 : after post0 V1 (Proc.devRef .tc main_v69) = broadcastInDim S2x1000x1 ![0, 1] bcast_S2x1000_S2x1000x1_0_1
      (transpose S2x1000 [1, 0] (shapeCast S1000x2 (V (Proc.devRef .tc main_v64_3)) shapeCasts_S1000x2x1_S1000x2 : IVec S1000x2 32) transposes_S1000x2_S2x1000_1_0) := by
    after_reads_simp; rw [e.c3]; rfl
  have h68 : after post0 V1 (Proc.devRef .tc main_v68) = transpose S2x1000 [1, 0] (shapeCast S1000x2 (V (Proc.devRef .tc main_v64_4)) shapeCasts_S1000x2x1_S1000x2 : IVec S1000x2 1)
      transposes_S1000x2_S2x1000_1_0 := by
    after_reads_simp; rw [e.c4]; rfl
  have h61 : after post0 V1 (Proc.devRef .tc main_v61) = V (Proc.devRef .tc main_v61) := by after_reads_simp; exact e.v61
  generalize after post0 V1 = V2 at h69 h68 h61 ⊢
  have h70 := read_takeRow V2
  rw [h61, h69] at h70
  have g68 : after (takeRowOps (.of main_v61) (.of main_v69) main_call8) V2 (Proc.devRef .tc main_v68) = V2 (Proc.devRef .tc main_v68) := by after_reads_simp
  rw [h68] at g68
  generalize after (takeRowOps (.of main_v61) (.of main_v69) main_call8) V2 = V3 at h70 g68 ⊢
  after_reads_simp
  rw [h70, g68]
  rfl

/-! ## The loop -/

/-- The scores before trip `k`. -/
def scoreAt (B : FVec F S2x6000x4 .f32) (s : FVec F S2x6000 .f32) : ℕ → FVec F S2x6000 .f32
  | 0 => s
  | k + 1 => nextS B (scoreAt B s k)

/-- The boxes and the scores before trip `k`. -/
theorem atK_reads (V : Valuation τ sig (Elt F)) (B : FVec F S2x6000x4 .f32) (s : FVec F S2x6000 .f32) (h61 : V (Proc.devRef .tc main_v61) = B)
    (h0 : V (Proc.devRef .tc main_v64_0) = B) (h2 : V (Proc.devRef .tc main_v64_2) = s) : ∀ k, atK V k (Proc.devRef .tc main_v61) = B ∧ atK V k (Proc.devRef .tc main_v64_0) = B
      ∧ atK V k (Proc.devRef .tc main_v64_2) = scoreAt B s k
  | 0 => ⟨h61, h0, h2⟩
  | k + 1 => by
    obtain ⟨g61, g0, g2⟩ := atK_reads V B s h61 h0 h2 k
    obtain ⟨t61, t0, t2, -, -⟩ := trip_reads (atK V k)
    refine ⟨t61.trans g61, t0.trans g0, t2.trans ?_⟩
    rw [g0, g2]; rfl

/-- What trip `k` puts among the positions and the marks. -/
theorem atK_puts (V : Valuation τ sig (Elt F)) (B : FVec F S2x6000x4 .f32) (s : FVec F S2x6000 .f32) (h61 : entry V (Proc.devRef .tc main_v61) = B)
    (h0 : entry V (Proc.devRef .tc main_v64_0) = B) (h2 : entry V (Proc.devRef .tc main_v64_2) = s) (k : ℕ) :
    atK (entry V) (k + 1) (Proc.devRef .tc main_v64_3) = putAt (atK (entry V) k (Proc.devRef .tc main_v64_3)) (pos (scoreAt B s k)) (fun _ => Scf.iv 0#32 1#32 k)
    ∧ atK (entry V) (k + 1) (Proc.devRef .tc main_v64_4) = putAt (atK (entry V) k (Proc.devRef .tc main_v64_4)) (okAt (scoreAt B s k)) (fun _ => Scf.iv 0#32 1#32 k) := by
  obtain ⟨-, -, g2⟩ := atK_reads (entry V) B s h61 h0 h2 k
  obtain ⟨-, -, -, t3, t4⟩ := trip_reads (atK (entry V) k)
  refine ⟨t3.trans ?_, t4.trans ?_⟩ <;> rw [g2, atK_ctr] <;> rfl

end Cert.ReferenceIdeal.Hand

end

end
-- ==== Proof.TopK.lean ====
/-
  The six thousand chosen positions of each image: all in range, and among equal scores in increasing order.
-/
module

public import proofs.«01_k».proof.Proof.RefTrip
public import Idealize.ShloMosaic.Lib.SortFacts
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

/-- A stable insertion into a list of later positions keeps: of two entries the first is before the second, or has the smaller position. -/
theorem pairwise_insertBefore_lt {n : ℕ} (R : Fin n → Fin n → Bool) (a : Fin n) (l : List (Fin n)) (ha : ∀ b ∈ l, a < b)
    (hl : l.Pairwise fun b c => R b c = true ∨ b < c) : (insertBefore R a l).Pairwise fun b c => R b c = true ∨ b < c := by
  induction l with
  | nil => exact List.pairwise_singleton _ _
  | cons b l ih =>
    have hl' := List.pairwise_cons.mp hl
    unfold insertBefore
    split
    · rename_i h
      refine List.pairwise_cons.mpr ⟨fun c hc => ?_, ih (fun c hc => ha c (List.mem_cons_of_mem _ hc)) hl'.2⟩
      rcases List.mem_cons.mp ((perm_insertBefore R a l).mem_iff.mp hc) with rfl | hc'
      · exact Or.inl h
      · exact hl'.1 c hc'
    · exact List.pairwise_cons.mpr ⟨fun c hc => Or.inr (ha c hc), hl⟩

/-- So does a stable sort of an increasing list. -/
theorem pairwise_stableSort_lt {n : ℕ} (R : Fin n → Fin n → Bool) (l : List (Fin n)) (hl : l.Pairwise (· < ·)) :
    (stableSort R l).Pairwise fun b c => R b c = true ∨ b < c := by
  induction l with
  | nil => exact List.Pairwise.nil
  | cons a l ih =>
    have hl' := List.pairwise_cons.mp hl
    unfold stableSort
    exact pairwise_insertBefore_lt R a _ (fun b hb => hl'.1 b ((perm_stableSort R l).mem_iff.mp hb)) (ih hl'.2)

/-- Of two sorted places the first's source is before the second's, or is the smaller position. -/
theorem sortedFrom_stable {n : ℕ} (R : Fin n → Fin n → Bool) (i j : Fin n) (hij : i < j) :
    R (sortedFrom R i) (sortedFrom R j) = true ∨ sortedFrom R i < sortedFrom R j := by
  have hp := List.pairwise_iff_get.mp (pairwise_stableSort_lt R (List.finRange n) (List.pairwise_lt_finRange n))
  exact hp (i.cast (length_sortPositions n R).symm) (j.cast (length_sortPositions n R).symm) hij

/-- The position in image `b` of its `p`-th largest score. -/
def rank (x : FVec Ideal S2x261888 .f32) (b : Fin 2) (p : Fin 6000) : Fin 261888 :=
  sortedFrom (fun k k' => FloatOps.cmpfTotal .gt (x (ix2 b k)) (x (ix2 b k')) == 1#1) ⟨p.val, by omega⟩

/-- An index with its last coordinate replaced. -/
theorem along_ix2 (b : Fin 2) (q : Fin 261888) (k : Fin (S2x261888.size (1 : Fin 2))) :
    Shape.Idx.along (s := S2x261888) (ix2 b q) (1 : Fin 2) k = ix2 b k := by
  funext a
  fin_cases a <;> rfl

/-- A sort of scores with their positions, read at a place. -/
theorem sort2_apply (x : FVec Ideal S2x261888 .f32) (y : IVec S2x261888 32) (b : Fin 2) (q : Fin 261888) :
    (Host.sort2 S2x261888 1 (fun l r => FloatOps.cmpfTotal .gt l.1 r.1) x y).1 (ix2 b q)
      = x (ix2 b (sortedFrom (fun k k' => FloatOps.cmpfTotal .gt (x (ix2 b k)) (x (ix2 b k')) == 1#1) q))
    ∧ (Host.sort2 S2x261888 1 (fun l r => FloatOps.cmpfTotal .gt l.1 r.1) x y).2 (ix2 b q)
      = y (ix2 b (sortedFrom (fun k k' => FloatOps.cmpfTotal .gt (x (ix2 b k)) (x (ix2 b k')) == 1#1) q)) := by
  have hd : Host.sort2 S2x261888 1 (fun l r => FloatOps.cmpfTotal .gt l.1 r.1) x y = _ := dif_pos (show 1 < S2x261888.rank by decide)
  have hR : (fun k k' : Fin (S2x261888.size (1 : Fin 2)) => FloatOps.cmpfTotal .gt (x (Shape.Idx.along (s := S2x261888) (ix2 b q) (1 : Fin 2) k))
        (x (Shape.Idx.along (s := S2x261888) (ix2 b q) (1 : Fin 2) k')) == 1#1)
      = (fun k k' : Fin 261888 => FloatOps.cmpfTotal .gt (x (ix2 b k)) (x (ix2 b k')) == 1#1) := by
    funext k k'; rw [along_ix2, along_ix2]; rfl
  rw [hd]
  refine ⟨(congrArg x (along_ix2 b q _)).trans ?_, (congrArg y (along_ix2 b q _)).trans ?_⟩ <;> rw [← hR] <;> rfl

/-- The chosen scores, and the chosen positions as words. -/
theorem topK_apply (x : FVec Ideal S2x261888 .f32) (b : Fin 2) (p : Fin 6000) :
    (Host.topK S2x6000 1 (FloatOps.cmpfTotal .gt) x sliceFits_S2x261888_S2x6000).1 (ix2 b p) = x (ix2 b (rank x b p))
    ∧ (Host.topK S2x6000 1 (FloatOps.cmpfTotal .gt) x sliceFits_S2x261888_S2x6000).2 (ix2 b p) = BitVec.ofNat 32 (rank x b p).val := by
  have hk : ∀ a : Fin S2x261888.rank, ((ix2 b ⟨p.val, by omega⟩ : S2x261888.Idx) a).val
      = 0 + ((ix2 b p : S2x6000.Idx) (a.cast sliceFits_S2x261888_S2x6000.1.symm)).val := by
    intro a; fin_cases a <;> exact (Nat.zero_add _).symm
  have hy : (fun i : S2x261888.Idx => if hd : 1 < S2x261888.rank then iotaInDim S2x261888 32 ⟨1, hd⟩ i else 0#32) = iotaInDim S2x261888 32 (1 : Fin 2) :=
    funext fun i => dif_pos (by decide)
  unfold Host.topK
  rw [hy]
  exact ⟨(extractStridedSlice_apply _ _ sliceFits_S2x261888_S2x6000 (ix2 b p) _ hk).trans (sort2_apply x _ b _).1,
    (extractStridedSlice_apply _ _ sliceFits_S2x261888_S2x6000 (ix2 b p) _ hk).trans (sort2_apply x (iotaInDim S2x261888 32 (1 : Fin 2)) b _).2⟩

/-- Of two chosen positions of equal scores, the first is the smaller. -/
theorem rank_lt (x : FVec Ideal S2x261888 .f32) (b : Fin 2) (p q : Fin 6000) (hpq : p < q)
    (h : x (ix2 b (rank x b p)) = x (ix2 b (rank x b q))) : (rank x b p).val < (rank x b q).val := by
  rcases sortedFrom_stable (fun k k' => FloatOps.cmpfTotal .gt (x (ix2 b k)) (x (ix2 b k')) == 1#1) ⟨p.val, by omega⟩ ⟨q.val, by omega⟩ hpq with h1 | h1
  · have h2 : (FloatOps.cmpfTotal .gt (x (ix2 b (rank x b p))) (x (ix2 b (rank x b q))) == 1#1) = true := h1
    rw [h, Ideal.cmpfTotal_def] at h2
    exact absurd h2 (by simp [Ideal.cmp, CmpDirection.ordered])
  · exact h1

end Cert.ReferenceIdeal.Hand

end

end
-- ==== Proof.RefElem.lean ====
/-
  The reference's vectors at an index: what each take gives at a position in range.
-/
module

public import proofs.«01_k».proof.Proof.TopK
public import Idealize.ShloMosaic.Lib.DynamicIndex

@[expose] public section

set_option maxRecDepth 16384

noncomputable section

namespace Cert.ReferenceIdeal.Hand

open Cert.ReferenceIdeal Cert.ReferenceIdeal.Gen
open Idealize.ShloMosaic Idealize.ShloMosaic.TcCoe

/-! ## Positions in range -/

/-- A small number, through its word, is itself. -/
theorem toNat_ofNat {n N : ℕ} (hn : n < N) (hN : N ≤ 2 ^ 31) : (BitVec.ofNat 32 n).toInt.toNat = n := by
  rw [BitVec.toInt_eq_toNat_of_lt] <;> simp <;> omega

/-- The same, as an integer. -/
theorem toInt_ofNat {n N : ℕ} (hn : n < N) (hN : N ≤ 2 ^ 31) : (BitVec.ofNat 32 n).toInt = n := by
  rw [BitVec.toInt_eq_toNat_of_lt] <;> simp <;> omega

/-- A position that isn't negative stays as it is. -/
theorem wrapped {n N : ℕ} (hn : n < N) (hN : N ≤ 2 ^ 31) (u : BitVec 32) :
    Scalar.select (IntOp.cmpi .slt (BitVec.ofNat 32 n) 0#32) u (BitVec.ofNat 32 n) = BitVec.ofNat 32 n := by
  have h : (BitVec.ofNat 32 n).slt 0#32 = false := by
    rw [BitVec.slt, toInt_ofNat hn hN]; simp
  simp [IntOp.cmpi, h, Scalar.select]

/-- A position below the bound passes the test of range. -/
theorem inRange {n N : ℕ} (hn : n < N) (hN : N ≤ 2 ^ 31) (w : BitVec 32) (hw : w.toInt = (N : ℤ) - 1) :
    IntOp.andi (IntOp.andi (IntOp.cmpi .sge (BitVec.ofNat 32 n) 0#32) (IntOp.cmpi .sle (BitVec.ofNat 32 n) w)) (1#1) = 1#1 := by
  have h1 : BitVec.sle 0#32 (BitVec.ofNat 32 n) = true := by
    rw [BitVec.sle, toInt_ofNat hn hN]; simp
  have h2 : BitVec.sle (BitVec.ofNat 32 n) w = true := by
    rw [BitVec.sle, toInt_ofNat hn hN, hw]; simp; omega
  simp [IntOp.cmpi, h1, h2, IntOp.andi]

/-! ## The takes -/

/-- The gather of rows, at a position in range. -/
theorem gather_at (x : FVec Ideal S2x261888x4 .f32) (i : IVec S2x6000x1 32) (b : Fin 2) (p : Fin 6000) (c : Fin 4) (n : ℕ) (hn : n < 261888)
    (h : i (ix3 b p 0) = BitVec.ofNat 32 n) :
    Host.gather gather_S2x261888x4_S2x6000x1_S2x6000x4_2_1_0_0_1_2_114 x i (ix3 b p c) = x (ix3 b ⟨n, hn⟩ c) := by
  have hs : (gather_S2x261888x4_S2x6000x1_S2x6000x4_2_1_0_0_1_2_114).siIdx (ix3 b p c) ⟨0, by decide⟩ = ix3 b p 0 := by
    funext a; fin_cases a <;> rfl
  refine congrArg x (funext fun a => Fin.ext ?_)
  fin_cases a
  · show 0 + b.val + 0 = b.val
    omega
  · show min (i ((gather_S2x261888x4_S2x6000x1_S2x6000x4_2_1_0_0_1_2_114).siIdx (ix3 b p c) ⟨0, _⟩)).toInt.toNat 261887 + 0 + 0 = n
    rw [hs, h, toNat_ofNat hn (by decide)]; omega
  · show 0 + 0 + c.val = c.val
    omega

/-- A take gives the row at a position in range. -/
theorem takeAt_apply (x : FVec Ideal S2x261888x4 .f32) (i : IVec S2x6000x1 32) (b : Fin 2) (p : Fin 6000) (c : Fin 4) (n : ℕ) (hn : n < 261888)
    (h : i (ix3 b p 0) = BitVec.ofNat 32 n) : takeAt x i (ix3 b p c) = x (ix3 b ⟨n, hn⟩ c) := by
  have hg := gather_at x (select (cmpi .slt i (broadcastInDim S2x6000x1 ![] bcast_S_S2x6000x1 (constantI S_ 32 0#32)))
    (addi i (broadcastInDim S2x6000x1 ![] bcast_S_S2x6000x1 (constantI S_ 32 261888#32))) i) b p c n hn
    (by pointwise; rw [h]; exact wrapped hn (by decide) _)
  pointwise [takeAt]
  rw [hg]
  simp only [Finset.univ_unique, Finset.fold_singleton]
  rw [show (default : Fin 1) = 0 from rfl, h, wrapped hn (by decide), inRange hn (by decide) _ (by decide)]
  rfl

/-- The gather of scores, at a position in range. -/
theorem gatherScore_at (x : FVec Ideal S2x6000 .f32) (i : IVec S2x1x1 32) (b : Fin 2) (n : ℕ) (hn : n < 6000)
    (h : i (ix3 b 0 0) = BitVec.ofNat 32 n) :
    Host.gather gather_S2x6000_S2x1x1_S2x1_n_1_0_0_1_2_11 x i (ix2 b 0) = x (ix2 b ⟨n, hn⟩) := by
  have hs : (gather_S2x6000_S2x1x1_S2x1_n_1_0_0_1_2_11).siIdx (ix2 b 0) ⟨0, by decide⟩ = ix3 b 0 0 := by
    funext a; fin_cases a <;> rfl
  refine congrArg x (funext fun a => Fin.ext ?_)
  fin_cases a
  · show 0 + b.val + 0 = b.val
    omega
  · show min (i ((gather_S2x6000_S2x1x1_S2x1_n_1_0_0_1_2_11).siIdx (ix2 b 0) ⟨0, _⟩)).toInt.toNat 5999 + 0 + 0 = n
    rw [hs, h, toNat_ofNat hn (by decide)]; omega

/-- The take of a score gives the score at a position in range. -/
theorem takeScore_apply (x : FVec Ideal S2x6000 .f32) (i : IVec S2x1 32) (b : Fin 2) (n : ℕ) (hn : n < 6000)
    (h : i (ix2 b 0) = BitVec.ofNat 32 n) : takeScore x i (ix2 b 0) = x (ix2 b ⟨n, hn⟩) := by
  have hg := gatherScore_at x (shapeCast S2x1x1 (select (cmpi .slt i (broadcastInDim S2x1 ![] bcast_S_S2x1 (constantI S_ 32 0#32)))
    (addi i (broadcastInDim S2x1 ![] bcast_S_S2x1 (constantI S_ 32 6000#32))) i) shapeCasts_S2x1_S2x1x1) b n hn
    (by pointwise; rw [h]; exact wrapped hn (by decide) _)
  pointwise [takeScore]
  rw [hg]
  simp only [Finset.univ_unique, Finset.fold_singleton]
  rw [h, wrapped hn (by decide), inRange hn (by decide) _ (by decide)]
  rfl

/-- The gather of the chosen boxes, at a position in range. -/
theorem gatherBox_at (x : FVec Ideal S2x6000x4 .f32) (i : IVec S2x1x1 32) (b : Fin 2) (c : Fin 4) (n : ℕ) (hn : n < 6000)
    (h : i (ix3 b 0 0) = BitVec.ofNat 32 n) :
    Host.gather gather_S2x6000x4_S2x1x1_S2x1x4_2_1_0_0_1_2_114 x i (ix3 b 0 c) = x (ix3 b ⟨n, hn⟩ c) := by
  have hs : (gather_S2x6000x4_S2x1x1_S2x1x4_2_1_0_0_1_2_114).siIdx (ix3 b 0 c) ⟨0, by decide⟩ = ix3 b 0 0 := by
    funext a; fin_cases a <;> rfl
  refine congrArg x (funext fun a => Fin.ext ?_)
  fin_cases a
  · show 0 + b.val + 0 = b.val
    omega
  · show min (i ((gather_S2x6000x4_S2x1x1_S2x1x4_2_1_0_0_1_2_114).siIdx (ix3 b 0 c) ⟨0, _⟩)).toInt.toNat 5999 + 0 + 0 = n
    rw [hs, h, toNat_ofNat hn (by decide)]; omega
  · show 0 + 0 + c.val = c.val
    omega

/-- The take of a box gives the box at a position in range. -/
theorem takeBox_apply (x : FVec Ideal S2x6000x4 .f32) (i : IVec S2x1x1 32) (b : Fin 2) (c : Fin 4) (n : ℕ) (hn : n < 6000)
    (h : i (ix3 b 0 0) = BitVec.ofNat 32 n) : takeBox x i (ix3 b 0 c) = x (ix3 b ⟨n, hn⟩ c) := by
  have hg := gatherBox_at x (select (cmpi .slt i (broadcastInDim S2x1x1 ![] bcast_S_S2x1x1 (constantI S_ 32 0#32)))
    (addi i (broadcastInDim S2x1x1 ![] bcast_S_S2x1x1 (constantI S_ 32 6000#32))) i) b c n hn
    (by pointwise; rw [h]; exact wrapped hn (by decide) _)
  pointwise [takeBox]
  rw [hg]
  simp only [Finset.univ_unique, Finset.fold_singleton]
  rw [show (default : Fin 1) = 0 from rfl, h, wrapped hn (by decide), inRange hn (by decide) _ (by decide)]
  rfl

/-- The gather of the thousand boxes, at a position in range. -/
theorem gatherRow_at (x : FVec Ideal S2x6000x4 .f32) (i : IVec S2x1000x1 32) (b : Fin 2) (k : Fin 1000) (c : Fin 4) (n : ℕ) (hn : n < 6000)
    (h : i (ix3 b k 0) = BitVec.ofNat 32 n) :
    Host.gather gather_S2x6000x4_S2x1000x1_S2x1000x4_2_1_0_0_1_2_114 x i (ix3 b k c) = x (ix3 b ⟨n, hn⟩ c) := by
  have hs : (gather_S2x6000x4_S2x1000x1_S2x1000x4_2_1_0_0_1_2_114).siIdx (ix3 b k c) ⟨0, by decide⟩ = ix3 b k 0 := by
    funext a; fin_cases a <;> rfl
  refine congrArg x (funext fun a => Fin.ext ?_)
  fin_cases a
  · show 0 + b.val + 0 = b.val
    omega
  · show min (i ((gather_S2x6000x4_S2x1000x1_S2x1000x4_2_1_0_0_1_2_114).siIdx (ix3 b k c) ⟨0, _⟩)).toInt.toNat 5999 + 0 + 0 = n
    rw [hs, h, toNat_ofNat hn (by decide)]; omega
  · show 0 + 0 + c.val = c.val
    omega

/-- The take of the thousand boxes gives the box at a position in range. -/
theorem takeRow_apply (x : FVec Ideal S2x6000x4 .f32) (i : IVec S2x1000x1 32) (b : Fin 2) (k : Fin 1000) (c : Fin 4) (n : ℕ) (hn : n < 6000)
    (h : i (ix3 b k 0) = BitVec.ofNat 32 n) : takeRow x i (ix3 b k c) = x (ix3 b ⟨n, hn⟩ c) := by
  have hg := gatherRow_at x (select (cmpi .slt i (broadcastInDim S2x1000x1 ![] bcast_S_S2x1000x1 (constantI S_ 32 0#32)))
    (addi i (broadcastInDim S2x1000x1 ![] bcast_S_S2x1000x1 (constantI S_ 32 6000#32))) i) b k c n hn
    (by pointwise; rw [h]; exact wrapped hn (by decide) _)
  pointwise [takeRow]
  rw [hg]
  simp only [Finset.univ_unique, Finset.fold_singleton]
  rw [show (default : Fin 1) = 0 from rfl, h, wrapped hn (by decide), inRange hn (by decide) _ (by decide)]
  rfl

/-! ## The place of a trip -/

/-- What a trip puts lies at its place; the other places keep what they hold. -/
theorem putAt_apply {α : Type} (x : S1000x2x1.Idx → α) (u : S2x1.Idx → α) (k : ℕ) (hk : k < 1000) (a : Fin 1000) (b : Fin 2) :
    putAt x u (fun _ => Scf.iv 0#32 1#32 k) (ix3 a b 0) = if a.val = k then u (ix2 b 0) else x (ix3 a b 0) := by
  have hv : (Scf.iv 0#32 1#32 k).toInt = k := by
    rw [show Scf.iv 0#32 1#32 k = BitVec.ofNat 32 k by simp [Scf.iv], toInt_ofNat hk (by decide)]
  have h0 : Host.clampedStart S1000x2x1 S1x2x1 updateFits_S1000x2x1_S1x2x1.1
      (fun a => ((![fun _ => Scf.iv 0#32 1#32 k, constantI S_ 32 0#32, constantI S_ 32 0#32] : Fin 3 → IVec S_ 32) a (Shape.Idx.first h_S_)).toInt) 0 = k :=
    Host.clampedStart_of_le _ _ _ _ hv (show k + 1 ≤ 1000 by omega)
  have h1 : Host.clampedStart S1000x2x1 S1x2x1 updateFits_S1000x2x1_S1x2x1.1
      (fun a => ((![fun _ => Scf.iv 0#32 1#32 k, constantI S_ 32 0#32, constantI S_ 32 0#32] : Fin 3 → IVec S_ 32) a (Shape.Idx.first h_S_)).toInt) 1 = 0 :=
    Host.clampedStart_of_le _ _ _ _ rfl (show 0 + 2 ≤ 2 by omega)
  have h2 : Host.clampedStart S1000x2x1 S1x2x1 updateFits_S1000x2x1_S1x2x1.1
      (fun a => ((![fun _ => Scf.iv 0#32 1#32 k, constantI S_ 32 0#32, constantI S_ 32 0#32] : Fin 3 → IVec S_ 32) a (Shape.Idx.first h_S_)).toInt) 2 = 0 :=
    Host.clampedStart_of_le _ _ _ _ rfl (show 0 + 1 ≤ 1 by omega)
  unfold putAt
  rw [Host.dynamicUpdateSlice_apply]
  split_ifs with hin hak hak
  · refine congrArg u (funext fun d => Fin.ext ?_)
    fin_cases d
    · refine Eq.trans (?_ : _ = b.val - Host.clampedStart S1000x2x1 S1x2x1 updateFits_S1000x2x1_S1x2x1.1 _ 1) (by rw [h1]; rfl)
      rfl
    · rfl
  · have := hin 0
    rw [h0] at this
    have h3 : k ≤ a.val ∧ a.val < k + 1 := this
    omega
  · refine absurd (fun d => ?_) hin
    fin_cases d
    · exact ⟨(le_of_eq h0).trans (by omega : k ≤ a.val), lt_of_lt_of_eq (by omega : a.val < k + 1) (congrArg (· + 1) h0.symm)⟩
    · exact ⟨(le_of_eq h1).trans (by omega : 0 ≤ b.val), lt_of_lt_of_eq (by omega : b.val < 0 + 2) (congrArg (· + 2) h1.symm)⟩
    · exact ⟨(le_of_eq h2).trans (by omega : 0 ≤ 0), lt_of_lt_of_eq (by omega : 0 < 0 + 1) (congrArg (· + 1) h2.symm)⟩
  · rfl

end Cert.ReferenceIdeal.Hand

end

end
-- ==== Proof.Greedy.lean ====
/-
  Greedy suppression on two sets of entries: the entries of one are some of the entries of the other, the rest of which never matter.
  While some score is above the limit, both choose the same entry at each step; afterwards no score is above it on either side.
-/
module

public import Mathlib.Data.EReal.Basic
public import Mathlib.Data.Fintype.Basic
public import Mathlib.Data.Finset.Max
public import Mathlib.Tactic.SplitIfs

@[expose] public section

namespace Cert.Greedy

/-- `i` is the choice by score and then by the smallest tie word, which no other entry of that score has. -/
def Picks {ι : Type} (T : ι → ℤ) (S : ι → EReal) (i : ι) : Prop :=
  (∀ j, S j ≤ S i) ∧ (∀ j, S j = S i → j ≠ i → T i < T j)

/-- `q` is the first entry of the largest score. -/
def First {n : ℕ} (s : Fin n → EReal) (q : Fin n) : Prop :=
  (∀ p, s p ≤ s q) ∧ (∀ p, s p = s q → q ≤ p)

/-- Some entry is the first of the largest score. -/
theorem exists_first {n : ℕ} (s : Fin n → EReal) (hn : 0 < n) : ∃ q, First s q := by
  classical
  obtain ⟨m, -, hm⟩ := Finset.exists_max_image (Finset.univ : Finset (Fin n)) s ⟨⟨0, hn⟩, Finset.mem_univ _⟩
  obtain ⟨q, hq, hmin⟩ := Finset.exists_min_image (Finset.univ.filter fun p => s p = s m) id
    ⟨m, Finset.mem_filter.mpr ⟨Finset.mem_univ _, rfl⟩⟩
  have hqm : s q = s m := (Finset.mem_filter.mp hq).2
  refine ⟨q, fun p => hqm ▸ hm p (Finset.mem_univ _), fun p hp => ?_⟩
  exact hmin p (Finset.mem_filter.mpr ⟨Finset.mem_univ _, hp.trans hqm⟩)

/-- The simulation. `S` are the scores of the larger set and `s` those of the smaller, step by step. -/
theorem sim {ι : Type} {n : ℕ} (hn : 0 < n) (e : Fin n → ι) (he : Function.Injective e) (T : ι → ℤ) (lim low : EReal) (hlow : low ≤ lim)
    (S : ℕ → ι → EReal) (s : ℕ → Fin n → EReal) (supp : ι → ι → Prop) (supp' : Fin n → Fin n → Prop)
    [∀ i j, Decidable (supp i j ∨ j = i)] [∀ q p, Decidable (supp' q p ∨ p = q)]
    (hsupp : ∀ q p, supp (e q) (e p) ↔ supp' q p)
    (hK1 : ∀ k i, Picks T (S k) i → ∀ j, S (k + 1) j = if supp i j ∨ j = i then low else S k j)
    (hK2 : ∀ k, (∀ i, S k i ≤ lim) → ∀ i, S (k + 1) i ≤ lim)
    (hR1 : ∀ k q, lim < s k q → First (s k) q → ∀ p, s (k + 1) p = if supp' q p ∨ p = q then low else s k p)
    (hR2 : ∀ k, (∀ p, s k p ≤ lim) → ∀ p, s (k + 1) p ≤ lim)
    (h0 : ∀ p, S 0 (e p) = s 0 p) (hpad : ∀ i, (∀ p, i ≠ e p) → S 0 i ≤ lim)
    (hT : ∀ p q, p < q → s 0 p = s 0 q → T (e p) < T (e q)) (k : ℕ) :
    (∃ q, lim < s k q ∧ First (s k) q ∧ lim < S k (e q) ∧ Picks T (S k) (e q)) ∨ ((∀ i, S k i ≤ lim) ∧ ∀ p, s k p ≤ lim) := by
  have choose : ∀ k, ((∀ p, S k (e p) = s k p) ∧ (∀ p, s k p = s 0 p ∨ s k p = low) ∧ (∀ i, (∀ p, i ≠ e p) → S k i ≤ lim)) →
      (∃ q, lim < s k q ∧ First (s k) q ∧ lim < S k (e q) ∧ Picks T (S k) (e q)) ∨ ((∀ i, S k i ≤ lim) ∧ ∀ p, s k p ≤ lim) := by
    intro k ⟨hs, hor, hp⟩
    obtain ⟨q, hq⟩ := exists_first (s k) hn
    rcases lt_or_ge lim (s k q) with hl | hl
    · refine Or.inl ⟨q, hl, hq, (hs q).symm ▸ hl, ?_, ?_⟩
      · intro i
        by_cases hi : ∃ p, i = e p
        · obtain ⟨p, rfl⟩ := hi
          rw [hs, hs]; exact hq.1 p
        · have := hp i (fun p h => hi ⟨p, h⟩)
          rw [hs]; exact this.trans hl.le
      · intro i hSi hne
        by_cases hi : ∃ p, i = e p
        · obtain ⟨p, rfl⟩ := hi
          rw [hs, hs] at hSi
          have hne' : p ≠ q := fun h => hne (h ▸ rfl)
          have hlt : q < p := lt_of_le_of_ne (hq.2 p hSi) (Ne.symm hne')
          have back : ∀ r, s k r = s k q → s 0 r = s k q := fun r hr => by
            rcases hor r with h | h
            · rw [← h, hr]
            · exact absurd (hr.symm.trans h ▸ hl : lim < low) (not_lt.mpr hlow)
          exact hT q p hlt ((back q rfl).trans (back p hSi).symm)
        · have := hp i (fun p h => hi ⟨p, h⟩)
          rw [hSi, hs] at this
          exact absurd hl (not_lt.mpr this)
    · refine Or.inr ⟨fun i => ?_, fun p => (hq.1 p).trans hl⟩
      by_cases hi : ∃ p, i = e p
      · obtain ⟨p, rfl⟩ := hi
        rw [hs]; exact (hq.1 p).trans hl
      · exact hp i (fun p h => hi ⟨p, h⟩)
  have inv : ∀ k, ((∀ p, S k (e p) = s k p) ∧ (∀ p, s k p = s 0 p ∨ s k p = low) ∧ (∀ i, (∀ p, i ≠ e p) → S k i ≤ lim))
      ∨ ((∀ i, S k i ≤ lim) ∧ ∀ p, s k p ≤ lim) := by
    intro k
    induction k with
    | zero => exact Or.inl ⟨h0, fun _ => Or.inl rfl, hpad⟩
    | succ k ih =>
      rcases ih with h | h
      · rcases choose k h with ⟨q, hl, hq, -, hP⟩ | h'
        · obtain ⟨hs, hor, hp⟩ := h
          refine Or.inl ⟨fun p => ?_, fun p => ?_, fun i hi => ?_⟩
          · rw [hK1 k _ hP, hR1 k q hl hq, hs]
            have : (supp (e q) (e p) ∨ e p = e q) ↔ (supp' q p ∨ p = q) := or_congr (hsupp q p) he.eq_iff
            by_cases hc : supp' q p ∨ p = q
            · rw [if_pos hc, if_pos (this.mpr hc)]
            · rw [if_neg hc, if_neg (fun h => hc (this.mp h))]
          · rw [hR1 k q hl hq]
            split
            · exact Or.inr rfl
            · exact hor p
          · rw [hK1 k _ hP]
            split
            · exact hlow
            · exact hp i hi
        · exact Or.inr ⟨hK2 k h'.1, hR2 k h'.2⟩
      · exact Or.inr ⟨hK2 k h.1, hR2 k h.2⟩
  rcases inv k with h | h
  · exact choose k h
  · exact Or.inr h

end Cert.Greedy

end
-- ==== Proof.ArgMax.lean ====
/-
  The reference's choice of a position: the first of the largest score, and always a position in range.
-/
module

public import proofs.«01_k».proof.Proof.RefElem
public import proofs.«01_k».proof.Proof.Greedy

@[expose] public section

set_option maxRecDepth 16384

noncomputable section

namespace Cert.ReferenceIdeal.Hand

open Cert.ReferenceIdeal Cert.ReferenceIdeal.Gen
open Idealize.ShloMosaic Idealize.ShloMosaic.TcCoe

/-- `y` is at least as good a choice as `x`: a larger score, or the same score no later. -/
def AsGood (x y : EReal × BitVec 32) : Prop := x.1 < y.1 ∨ (x.1 = y.1 ∧ y.2.toInt ≤ x.2.toInt)

/-- Every pair is as good as itself. -/
theorem AsGood.refl (x : EReal × BitVec 32) : AsGood x x := Or.inr ⟨rfl, le_refl _⟩

/-- That order is transitive. -/
theorem AsGood.trans {x y z : EReal × BitVec 32} (h : AsGood x y) (g : AsGood y z) : AsGood x z := by
  rcases h with h | ⟨h, h'⟩ <;> rcases g with g | ⟨g, g'⟩
  · exact Or.inl (h.trans g)
  · exact Or.inl (g ▸ h)
  · exact Or.inl (h ▸ g)
  · exact Or.inr ⟨h.trans g, g'.trans h'⟩

/-- One comparison keeps one of its two choices. -/
theorem reducer_eq (a b : EReal × BitVec 32) :
    reducer_argmax_f32_i32 (F := Ideal) a b = if b.1 < a.1 ∨ (a.1 = b.1 ∧ a.2.slt b.2 = true) then a else b := by
  obtain ⟨x, i⟩ := a
  obtain ⟨y, j⟩ := b
  rcases lt_trichotomy x y with h | h | h
  · simp [reducer_argmax_f32_i32, Ideal.cmpf_def, Ideal.cmp, IntOp.ori, IntOp.andi, IntOp.cmpi, Scalar.select, h, h.ne, h.not_gt]
  · subst h
    by_cases hs : i.slt j = true <;>
    simp [reducer_argmax_f32_i32, Ideal.cmpf_def, Ideal.cmp, IntOp.ori, IntOp.andi, IntOp.cmpi, Scalar.select, hs]
  · simp [reducer_argmax_f32_i32, Ideal.cmpf_def, Ideal.cmp, IntOp.ori, IntOp.andi, IntOp.cmpi, Scalar.select, h, h.ne', h.not_gt]

/-- The reducer gives a pair at least as good as each of the two it is given. -/
theorem reducer_asGood (a b : EReal × BitVec 32) :
    AsGood a (reducer_argmax_f32_i32 (F := Ideal) a b) ∧ AsGood b (reducer_argmax_f32_i32 (F := Ideal) a b) := by
  rw [reducer_eq]
  split_ifs with h
  · refine ⟨AsGood.refl a, ?_⟩
    rcases h with h | ⟨h, h'⟩
    · exact Or.inl h
    · refine Or.inr ⟨h.symm, ?_⟩
      have : a.2.toInt < b.2.toInt := by simpa [BitVec.slt] using h'
      exact this.le
  · refine ⟨?_, AsGood.refl b⟩
    rw [not_or, not_and] at h
    rcases lt_or_eq_of_le (not_lt.mp h.1) with g | g
    · exact Or.inl g
    · refine Or.inr ⟨g, ?_⟩
      have := h.2 g
      simpa [BitVec.slt] using this

/-- A run of comparisons keeps one of its choices, and none is better. -/
theorem fold_best (l : List (EReal × BitVec 32)) (a : EReal × BitVec 32) :
    (l.foldl (reducer_argmax_f32_i32 (F := Ideal)) a = a ∨ l.foldl (reducer_argmax_f32_i32 (F := Ideal)) a ∈ l)
    ∧ AsGood a (l.foldl (reducer_argmax_f32_i32 (F := Ideal)) a)
    ∧ ∀ x ∈ l, AsGood x (l.foldl (reducer_argmax_f32_i32 (F := Ideal)) a) := by
  induction l generalizing a with
  | nil => exact ⟨Or.inl rfl, AsGood.refl a, fun x hx => absurd hx (List.not_mem_nil)⟩
  | cons b l ih =>
    obtain ⟨h1, h2, h3⟩ := ih (reducer_argmax_f32_i32 (F := Ideal) a b)
    obtain ⟨g1, g2⟩ := reducer_asGood a b
    rw [List.foldl_cons]
    refine ⟨?_, g1.trans h2, fun x hx => ?_⟩
    · rcases h1 with h1 | h1
      · rw [h1, reducer_eq]
        split_ifs
        · exact Or.inl rfl
        · exact Or.inr (List.mem_cons_self)
      · exact Or.inr (List.mem_cons_of_mem _ h1)
    · rcases List.mem_cons.mp hx with rfl | hx
      · exact g2.trans h2
      · exact h3 x hx

/-- The reduction's starting score is the bottom. -/
theorem bottom : Ideal.ofBits .f32 0xFF800000#32 = (⊥ : EReal) := by
  simp [Ideal.ofBits, Ideal.ieee]

/-- An entry's image. -/
theorem drop_ix2 (b : Fin 2) (p : Fin 6000) : reducesTo_S2x6000_S2_d1.drop (ix2 b p) = ix1 b := by
  funext a; fin_cases a; rfl

/-- The chosen position is in range, and where the largest score is above the bottom it is the first of that score. -/
theorem bestAt_spec (s : FVec Ideal S2x6000 .f32) (b : Fin 2) :
    ∃ q : Fin 6000, bestAt s (ix1 b) = BitVec.ofNat 32 q.val ∧
      ∀ q', Cert.Greedy.First (fun p => s (ix2 b p)) q' → ⊥ < s (ix2 b q') → q = q' := by
  have hb : bestAt s (ix1 b) = ((Host.argReduceFiber s (iotaInDim S2x6000 32 1) reducesTo_S2x6000_S2_d1 (ix1 b)).foldl
      (reducer_argmax_f32_i32 (F := Ideal)) ((⊥ : EReal), 0#32)).2 := by
    unfold bestAt
    rw [Ideal.argReduce_eq_reduce2, Host.reduce2_eq_foldl_fiber, show constant (F := Ideal) S_ .f32 0xFF800000#32 (Shape.Idx.first h_S_) = (⊥ : EReal) from bottom]
    rfl
  have hmem : ∀ p : Fin 6000, (s (ix2 b p), BitVec.ofNat 32 p.val) ∈ Host.argReduceFiber s (iotaInDim S2x6000 32 1) reducesTo_S2x6000_S2_d1 (ix1 b) := by
    intro p
    unfold Host.argReduceFiber
    refine List.mem_map.mpr ⟨S2x6000.rowMajor (ix2 b p), List.mem_filter.mpr ⟨List.mem_finRange _, ?_⟩, ?_⟩
    · rw [Equiv.symm_apply_apply, drop_ix2]; simp
    · rw [Equiv.symm_apply_apply]; rfl
  have hin : ∀ x ∈ Host.argReduceFiber s (iotaInDim S2x6000 32 1) reducesTo_S2x6000_S2_d1 (ix1 b), ∃ p : Fin 6000, x = (s (ix2 b p), BitVec.ofNat 32 p.val) := by
    intro x hx
    obtain ⟨n, hn, rfl⟩ := List.mem_map.mp hx
    have hd : reducesTo_S2x6000_S2_d1.drop (S2x6000.rowMajor.symm n) = ix1 b := by simpa using (List.mem_filter.mp hn).2
    generalize S2x6000.rowMajor.symm n = i at hd ⊢
    have h0 : i 0 = b := by
      have := congrFun hd 0
      exact Fin.ext (congrArg Fin.val this)
    refine ⟨i 1, ?_⟩
    have : i = ix2 b (i 1) := by
      funext a; fin_cases a
      · exact h0
      · rfl
    rw [this]; rfl
  obtain ⟨h1, -, h3⟩ := fold_best (Host.argReduceFiber s (iotaInDim S2x6000 32 1) reducesTo_S2x6000_S2_d1 (ix1 b)) ((⊥ : EReal), 0#32)
  rw [hb]
  generalize (Host.argReduceFiber s (iotaInDim S2x6000 32 1) reducesTo_S2x6000_S2_d1 (ix1 b)).foldl
    (reducer_argmax_f32_i32 (F := Ideal)) ((⊥ : EReal), 0#32) = r at h1 h3 ⊢
  rcases h1 with rfl | h1
  · refine ⟨0, rfl, fun q' hq hbot => ?_⟩
    rcases h3 _ (hmem q') with h | ⟨h, -⟩
    · exact absurd h (not_lt_bot)
    · exact absurd hbot (by rw [show s (ix2 b q') = (⊥ : EReal) from h]; exact lt_irrefl _)
  · obtain ⟨q, rfl⟩ := hin r h1
    refine ⟨q, rfl, fun q' hq hbot => ?_⟩
    rcases h3 _ (hmem q') with h | ⟨h, h'⟩
    · exact absurd h (not_lt.mpr (hq.1 q))
    · have h' : (BitVec.ofNat 32 q.val).toInt ≤ (BitVec.ofNat 32 q'.val).toInt := h'
      rw [toInt_ofNat q.isLt (by decide), toInt_ofNat q'.isLt (by decide)] at h'
      exact le_antisymm (by exact_mod_cast h') (hq.2 q h.symm)

end Cert.ReferenceIdeal.Hand

end

end
-- ==== Proof.RefStep.lean ====
/-
  One trip of the reference at an entry, and its result at an index.
-/
module

public import proofs.«01_k».proof.Proof.ArgMax

@[expose] public section

set_option maxRecDepth 16384

noncomputable section

namespace Cert.Greedy

open Idealize.ShloMosaic

/-- The overlap of two boxes, each given by its lower and upper corners. -/
def inter (a b : Fin 4 → EReal) : EReal :=
  max (min (a 2) (b 2) - max (a 0) (b 0)) 0 * max (min (a 3) (b 3) - max (a 1) (b 1)) 0
/-- The area of a box. -/
def area (a : Fin 4 → EReal) : EReal := (a 2 - a 0) * (a 3 - a 1)
/-- The overlap as a share of the two boxes together. -/
def iou (a b : Fin 4 → EReal) : EReal := Ideal.div (inter a b) (area a + area b - inter a b + Ideal.ofBits .f32 0x322BCC77#32)
/-- Box `a`, chosen, pushes box `b` down. -/
def Pushes (a b : Fin 4 → EReal) : Prop := Ideal.ofBits .f32 0x3F333333#32 < iou a b
/-- A score counts above this. -/
def lim : EReal := Ideal.ofBits .f32 0xCCBEBC20#32
/-- The score of what is chosen or pushed down. -/
def low : EReal := Ideal.ofBits .f32 0xCE6E6B28#32

/-- The bound as a real number. -/
theorem lim_eq : lim = ((-100000000 : ℝ) : EReal) := by
  simp [lim, Ideal.ofBits, Ideal.ieee, -EReal.coe_mul, -EReal.coe_neg]; norm_num
/-- The lowered score as a real number. -/
theorem low_eq : low = ((-1000000000 : ℝ) : EReal) := by
  simp [low, Ideal.ofBits, Ideal.ieee, -EReal.coe_mul, -EReal.coe_neg]; norm_num
/-- A lowered score doesn't count. -/
theorem low_le : low ≤ lim := by
  rw [lim_eq, low_eq]; exact EReal.coe_le_coe_iff.mpr (by norm_num)
/-- The bottom is below the bound. -/
theorem bot_lt : ⊥ < lim := by
  rw [lim_eq]; exact EReal.bot_lt_coe _
/-- The padding's score doesn't count. -/
theorem pad_le : Ideal.ofBits .f32 0xCEEE6B28#32 ≤ lim := by
  rw [show Ideal.ofBits .f32 0xCEEE6B28#32 = ((-2000000000 : ℝ) : EReal) by
    simp [Ideal.ofBits, Ideal.ieee, -EReal.coe_mul, -EReal.coe_neg]; norm_num, lim_eq]
  exact EReal.coe_le_coe_iff.mpr (by norm_num)

/-- The factor of each delta. -/
def scale : Fin 4 → EReal := ![Ideal.ofBits .f32 0x3DCCCCCD#32, Ideal.ofBits .f32 0x3DCCCCCD#32, Ideal.ofBits .f32 0x3E4CCCCD#32, Ideal.ofBits .f32 0x3E4CCCCD#32]
/-- One half. -/
def half : EReal := Ideal.ofBits .f32 0x3F000000#32
/-- A coordinate held between zero and one. -/
def clip (x : EReal) : EReal := max (min x 1) 0
/-- The lower end of a side before it is clipped: the anchor's side from `l` to `u`, moved by `m` of itself, grown by the exponential of `g`. -/
def lower (l u m g : EReal) : EReal := l + half * (u - l) + m * (u - l) - half * ((u - l) * Ideal.exp g)
/-- The upper end of that side. -/
def upper (l u m g : EReal) : EReal := lower l u m g + (u - l) * Ideal.exp g
/-- A box's coordinates, from the anchor `a` and the scaled deltas `d`. -/
def corner (a d : Fin 4 → EReal) : Fin 4 → EReal :=
  ![clip (lower (a 0) (a 2) (d 0) (d 2)), clip (lower (a 1) (a 3) (d 1) (d 3)), clip (upper (a 0) (a 2) (d 0) (d 2)), clip (upper (a 1) (a 3) (d 1) (d 3))]

end Cert.Greedy

namespace Cert.ReferenceIdeal.Hand

open Cert.ReferenceIdeal Cert.ReferenceIdeal.Gen
open Idealize.ShloMosaic Idealize.ShloMosaic.TcCoe
open Cert.Greedy (First Pushes lim low)

open Classical in
/-- A choice by a mark or the chosen entry itself. -/
theorem select_or {P P' : Prop} [Decidable P] (hP : P ↔ P') {n : ℕ} {p q : Fin n} (hp : p.val < n) (hq : q.val < n) (hn : n ≤ 2 ^ 31) (x y : EReal) :
    Scalar.select (IntOp.ori (BitVec.ofBool (decide P)) (IntOp.cmpi .eq (BitVec.ofNat 32 p.val) (BitVec.ofNat 32 q.val))) x y
      = if P' ∨ p = q then x else y := by
  have hpq : (BitVec.ofNat 32 p.val == BitVec.ofNat 32 q.val) = decide (p = q) := by
    rw [Bool.eq_iff_iff, beq_iff_eq, decide_eq_true_iff]
    refine ⟨fun h => ?_, fun h => h ▸ rfl⟩
    have := congrArg BitVec.toInt h
    rw [toInt_ofNat hp hn, toInt_ofNat hq hn] at this
    exact Fin.ext (by exact_mod_cast this)
  simp only [IntOp.cmpi, hpq]
  by_cases h1 : P' <;> by_cases h2 : p = q <;> simp [hP, h1, h2, Scalar.select, IntOp.ori]

/-- The box of an entry. -/
def boxAt (B : FVec Ideal S2x6000x4 .f32) (b : Fin 2) (p : Fin 6000) : Fin 4 → EReal := fun c => B (ix3 b p c)

open Classical in
/-- The scores after a trip at an entry, where `q` is the chosen position. -/
theorem nextS_apply (B : FVec Ideal S2x6000x4 .f32) (s : FVec Ideal S2x6000 .f32) (b : Fin 2) (p q : Fin 6000)
    (h : bestAt s (ix1 b) = BitVec.ofNat 32 q.val) :
    nextS B s (ix2 b p) = if Pushes (boxAt B b q) (boxAt B b p) ∨ p = q then low else s (ix2 b p) := by
  have ht : ∀ c : Fin 4, takeBox B (broadcastInDim S2x1x1 ![0, 1] bcast_S2x1_S2x1x1_0_1 (pos s)) (ix3 b 0 c) = boxAt B b q c := fun c =>
    takeBox_apply B _ b c q.val q.isLt (by pointwise [pos]; exact h)
  unfold nextS
  generalize takeBox B (broadcastInDim S2x1x1 ![0, 1] bcast_S2x1_S2x1x1_0_1 (pos s)) = c at ht
  pointwise [pushed, overlap, spread, fill, one0, one1, one2, one3, col0, col1, col2, col3, pos]
  rw [ht 0, ht 1, ht 2, ht 3, h]
  exact select_or Iff.rfl p.isLt q.isLt (by decide) _ _

/-- What counts at a trip is whether the chosen score is above the bound. -/
theorem okAt_apply (s : FVec Ideal S2x6000 .f32) (b : Fin 2) (q : Fin 6000) (h : bestAt s (ix1 b) = BitVec.ofNat 32 q.val) :
    okAt s (ix2 b 0) = (open Classical in BitVec.ofBool (decide (lim < s (ix2 b q)))) := by
  have hs := takeScore_apply s (pos s) b q.val q.isLt (by pointwise [pos]; exact h)
  pointwise [okAt]
  rw [hs]; rfl

/-- The result at an index, from what was put at that trip. -/
theorem result_apply (B : FVec Ideal S2x6000x4 .f32) (P : IVec S1000x2x1 32) (M : IVec S1000x2x1 1) (b : Fin 2) (k : Fin 1000) (c : Fin 4) (q : Fin 6000)
    (h : P (ix3 k b 0) = BitVec.ofNat 32 q.val) :
    result B P M (ix3 b k c) = B (ix3 b q c) * FloatOps.uitofp (F := Ideal) .f32 (M (ix3 k b 0)) := by
  have hr := takeRow_apply B (broadcastInDim S2x1000x1 ![0, 1] bcast_S2x1000_S2x1000x1_0_1
    (transpose S2x1000 [1, 0] (shapeCast S1000x2 P shapeCasts_S1000x2x1_S1000x2 : IVec S1000x2 32) transposes_S1000x2_S2x1000_1_0)) b k c q.val q.isLt
    (by pointwise; exact h)
  pointwise [result]
  rw [hr]

/-- The coordinate of a box at an entry, from the deltas and the anchor of it. -/
theorem boxes_apply (D A : FVec Ideal S2x6000x4 .f32) (b : Fin 2) (p : Fin 6000) (c : Fin 4) :
    boxes D A (ix3 b p c) = Cert.Greedy.corner (fun e => A (ix3 b p e)) (fun e => D (ix3 b p e)) c := by
  fin_cases c <;> pointwise [boxes, fill, col0, col1, col2, col3] <;> rfl
/-- The scaled deltas at an index. -/
theorem scaled_apply (d : FVec Ideal S2x261888x4 .f32) (b : Fin 2) (p : Fin 261888) (c : Fin 4) :
    scaled d (ix3 b p c) = d (ix3 b p c) * Cert.Greedy.scale c := by
  pointwise [scaled]
  fin_cases c <;> rfl

/-- What the trips have put: at each place below the count, what its trip put. -/
theorem puts_apply {α : Type} (x : ℕ → S1000x2x1.Idx → α) (u : ℕ → S2x1.Idx → α) (h : ∀ k, x (k + 1) = putAt (x k) (u k) (fun _ => Scf.iv 0#32 1#32 k))
    (b : Fin 2) (a : Fin 1000) : ∀ n, n ≤ 1000 → a.val < n → x n (ix3 a b 0) = u a.val (ix2 b 0)
  | 0, _, ha => absurd ha (Nat.not_lt_zero _)
  | n + 1, hn, ha => by
    rw [h, putAt_apply _ _ n (by omega)]
    split_ifs with e
    · rw [e]
    · exact puts_apply x u h b a n (by omega) (by omega)

end Cert.ReferenceIdeal.Hand

end

end
-- ==== Proof.KerStep.lean ====
/-
  One trip of the kernel's loop at an entry: the choice it makes, the scores after it and the row it stores.
-/
module

public import proofs.«01_k».proof.Proof.Body
public import proofs.«01_k».proof.Proof.RefStep

@[expose] public section

set_option maxRecDepth 16384

noncomputable section

namespace Cert.KernelIdeal.Hand

open Cert.KernelIdeal Cert.KernelIdeal.Gen
open Idealize.ShloMosaic Idealize.ShloMosaic.TcCoe

open Cert.Greedy (Picks Pushes lim low)

/-- The largest score is below a bound exactly when every score is. -/
theorem pay6_le_iff (s : FVec Ideal S8x768 .f32) (c : EReal) : k0_pay6 (F := Ideal) s ≤ c ↔ ∀ j, s j ≤ c := by
  unfold k0_pay6
  pointwise
  rw [Finset.fold_max_le, Cert.ReferenceIdeal.Hand.bottom]
  refine ⟨fun h j => ?_, fun h => ⟨bot_le, fun x _ => h _⟩⟩
  rw [← ix2_eta j]
  exact h.2 (j 0, j 1) (Finset.mem_univ _)

/-- The tie number of an entry. -/
def tie (v3 : IVec S8x768 32) (j : S8x768.Idx) : ℤ := (v3 j).toInt

/-- The largest score is the score of the chosen entry. -/
theorem pay6_eq {v3 : IVec S8x768 32} {s : FVec Ideal S8x768 .f32} {i : S8x768.Idx} (h : Picks (tie v3) s i) : k0_pay6 (F := Ideal) s = s i :=
  le_antisymm ((pay6_le_iff s _).mpr h.1) ((pay6_le_iff s _).mp le_rfl i)

/-- The smaller of two words, as an integer. -/
theorem minsi_toInt (x y : BitVec 32) : (IntOp.minsi x y).toInt = min x.toInt y.toInt := by
  unfold IntOp.minsi
  split_ifs with h
  · rw [BitVec.slt, decide_eq_true_iff] at h
    exact (min_eq_left h.le).symm
  · rw [BitVec.slt, decide_eq_true_iff] at h
    exact (min_eq_right (not_lt.mp h)).symm

/-- The least tie number among the entries of the chosen score is the chosen entry's. -/
theorem least_tie {v3 : IVec S8x768 32} {s : FVec Ideal S8x768 .f32} {i : S8x768.Idx} (h : Picks (tie v3) s i) [∀ x : Fin 8 × Fin 768, Decidable (s (ix2 x.1 x.2) = s i)] :
    (Finset.univ.fold IntOp.minsi (2147483647#32) fun x : Fin 8 × Fin 768 => if s (ix2 x.1 x.2) = s i then v3 (ix2 x.1 x.2) else 2147483647#32) = v3 i := by
  refine BitVec.eq_of_toInt_eq ?_
  rw [← Finset.fold_hom (op' := min) (m := BitVec.toInt) minsi_toInt]
  refine le_antisymm (Finset.fold_min_le _ |>.mpr (Or.inr ⟨(i 0, i 1), Finset.mem_univ _, ?_⟩)) (Finset.le_fold_min _ |>.mpr ⟨?_, fun x _ => ?_⟩)
  · have e : (ix2 (i 0) (i 1) : S8x768.Idx) = i := ix2_eta i
    simp only [e, if_true]; exact le_rfl
  · have := BitVec.toInt_lt (x := v3 i)
    have e : (2147483647#32).toInt = 2147483647 := by decide
    rw [e]; norm_num at this; omega
  · split_ifs with hx
    · by_cases e : (ix2 x.1 x.2 : S8x768.Idx) = i
      · rw [e]
      · exact (h.2 _ hx e).le
    · have := BitVec.toInt_lt (x := v3 i)
      have e : (2147483647#32).toInt = 2147483647 := by decide
      rw [e]; norm_num at this; omega

/-- The mark of the choice lies on the chosen entry alone. -/
theorem pay7_apply {v3 : IVec S8x768 32} {s : FVec Ideal S8x768 .f32} {i : S8x768.Idx} (h : Picks (tie v3) s i) (a : Fin 8) (b : Fin 768) :
    k0_pay7 (F := Ideal) v3 s (ix2 a b) = BitVec.ofBool (decide (ix2 a b = i)) := by
  unfold k0_pay7
  rw [pay6_eq h]
  pointwise
  rw [least_tie h]
  have hm : (s (ix2 a b) = s i ∧ v3 (ix2 a b) = v3 i) ↔ ix2 a b = i := by
    refine ⟨fun ⟨h1, h2⟩ => ?_, fun e => by rw [e]; exact ⟨rfl, rfl⟩⟩
    by_contra hne
    exact absurd (congrArg BitVec.toInt h2) (h.2 _ h1 hne).ne'
  have h3 : (v3 (ix2 a b) == v3 i) = decide (v3 (ix2 a b) = v3 i) := by rw [Bool.eq_iff_iff, beq_iff_eq, decide_eq_true_iff]
  simp only [IntOp.cmpi, h3]
  by_cases e : ix2 a b = i
  · obtain ⟨h1, h2⟩ := hm.mpr e
    simp only [h1, h2, e, decide_true]; decide
  · rw [decide_eq_false e]
    rcases not_and_or.mp (mt hm.mp e) with h1 | h1 <;> simp [h1, IntOp.andi]

open Classical in
/-- A mark as a number. -/
theorem mark (P : Prop) [Decidable P] : FloatOps.sitofp (F := Ideal) .f32 (BitVec.setWidth 32 (BitVec.ofBool (decide P))) = if P then 1 else 0 := by
  by_cases h : P
  · simp only [h, decide_true, if_true]
    show (((BitVec.setWidth 32 (BitVec.ofBool true)).toInt : ℝ) : EReal) = 1
    rw [show (BitVec.setWidth 32 (BitVec.ofBool true)).toInt = 1 by decide]; simp
  · simp only [h, decide_false, if_false]
    show (((BitVec.setWidth 32 (BitVec.ofBool false)).toInt : ℝ) : EReal) = 0
    rw [show (BitVec.setWidth 32 (BitVec.ofBool false)).toInt = 0 by decide]; simp

/-- The mark of a lane as a number. -/
theorem lane (n m : ℕ) (hn : n < 128) (hm : m < 128) :
    FloatOps.sitofp (F := Ideal) .f32 (BitVec.setWidth 32 (IntOp.cmpi .eq (BitVec.ofNat 32 n) (BitVec.ofNat 32 m))) = if n = m then 1 else 0 := by
  have e : (BitVec.ofNat 32 n == BitVec.ofNat 32 m) = decide (n = m) := by
    rw [Bool.eq_iff_iff, beq_iff_eq, decide_eq_true_iff]
    refine ⟨fun h => ?_, fun h => h ▸ rfl⟩
    have := congrArg BitVec.toNat h
    simp only [BitVec.toNat_ofNat] at this
    omega
  simp only [IntOp.cmpi, e]
  rw [mark]

/-- A sum of products with the mark is the chosen entry's value. -/
theorem oneHot {v3 : IVec S8x768 32} {s : FVec Ideal S8x768 .f32} {i : S8x768.Idx} (h : Picks (tie v3) s i) (v : FVec Ideal S8x768 .f32) :
    ∑ a : Fin 8, ∑ b : Fin 768, k0_pay8 (F := Ideal) v3 s (ix2 a b) * v (ix2 a b) = v i := by
  have hp : ∀ a b, k0_pay8 (F := Ideal) v3 s (ix2 a b) = if ix2 a b = i then 1 else 0 := by
    intro a b
    unfold k0_pay8
    pointwise
    rw [pay7_apply h]
    exact mark _
  clear h
  idx_vars i
  refine (Finset.sum_eq_single i0 (fun a _ ha => Finset.sum_eq_zero fun b _ => ?_) (fun h => absurd (Finset.mem_univ _) h)).trans
    ((Finset.sum_eq_single i1 (fun b _ hb => ?_) (fun h => absurd (Finset.mem_univ _) h)).trans ?_)
  · rw [hp, if_neg (fun e => ha (congrFun e 0))]; exact zero_mul _
  · rw [hp, if_neg (fun e => hb (congrFun e 1))]; exact zero_mul _
  · rw [hp, if_pos rfl]; exact one_mul _

/-- The masked sum of a coordinate is the chosen entry's: the first coordinate. -/
theorem pay9_eq {v3 : IVec S8x768 32} {s : FVec Ideal S8x768 .f32} {i : S8x768.Idx} (h : Picks (tie v3) s i) (v : FVec Ideal S8x768 .f32) :
    k0_pay9 (F := Ideal) v3 v s = v i := by
  unfold k0_pay9; pointwise; exact oneHot h v
/-- The second coordinate likewise. -/
theorem pay10_eq {v3 : IVec S8x768 32} {s : FVec Ideal S8x768 .f32} {i : S8x768.Idx} (h : Picks (tie v3) s i) (v : FVec Ideal S8x768 .f32) :
    k0_pay10 (F := Ideal) v3 v s = v i := by
  unfold k0_pay10; pointwise; exact oneHot h v
/-- The third coordinate likewise. -/
theorem pay11_eq {v3 : IVec S8x768 32} {s : FVec Ideal S8x768 .f32} {i : S8x768.Idx} (h : Picks (tie v3) s i) (v : FVec Ideal S8x768 .f32) :
    k0_pay11 (F := Ideal) v3 v s = v i := by
  unfold k0_pay11; pointwise; exact oneHot h v
/-- The fourth coordinate likewise. -/
theorem pay12_eq {v3 : IVec S8x768 32} {s : FVec Ideal S8x768 .f32} {i : S8x768.Idx} (h : Picks (tie v3) s i) (v : FVec Ideal S8x768 .f32) :
    k0_pay12 (F := Ideal) v3 v s = v i := by
  unfold k0_pay12; pointwise; exact oneHot h v
/-- The area likewise. -/
theorem pay13_eq {v3 : IVec S8x768 32} {s : FVec Ideal S8x768 .f32} {i : S8x768.Idx} (h : Picks (tie v3) s i) (v : FVec Ideal S8x768 .f32) :
    k0_pay13 (F := Ideal) v3 v s = v i := by
  unfold k0_pay13; pointwise; exact oneHot h v

variable (v3 : IVec S8x768 32) (v55 v59 v63 v65 s : FVec Ideal S8x768 .f32)

open Classical in
/-- A choice by two marks. -/
theorem select_or2 {P P' : Prop} [Decidable P] (hP : P ↔ P') (Q : Prop) [Decidable Q] (x y : EReal) :
    Scalar.select (IntOp.ori (BitVec.ofBool (decide P)) (BitVec.ofBool (decide Q))) x y = if P' ∨ Q then x else y := by
  by_cases h1 : P' <;> by_cases h2 : Q <;> simp [hP, h1, h2, Scalar.select, IntOp.ori]

/-- A choice between two that are below a bound is below it. -/
theorem select_le (w : BitVec 1) {x y c : EReal} (hx : x ≤ c) (hy : y ≤ c) : Scalar.select w x y ≤ c := by
  unfold Scalar.select
  split_ifs
  · exact hx
  · exact hy

/-- The box of an entry; its last coordinate is clipped from below as the trip reads it. -/
def entryBox (v55 v59 v63 v65 : FVec Ideal S8x768 .f32) (i : S8x768.Idx) : Fin 4 → EReal := ![v55 i, v59 i, v63 i, max (v65 i) 0]

open Classical in
/-- The scores after a trip. -/
theorem stepS_apply {i : S8x768.Idx} (h : Picks (tie v3) s i) (j : S8x768.Idx) :
    stepS (F := Ideal) v3 v55 v59 v63 v65 s j
      = if Pushes (entryBox v55 v59 v63 v65 i) (entryBox v55 v59 v63 v65 j) ∨ j = i then low else s j := by
  unfold stepS
  rw [pay9_eq h, pay10_eq h, pay11_eq h, pay12_eq h, pay13_eq h]
  unfold k0_pay5
  idx_vars j
  pointwise [k0_pay2, k0_pay1]
  rw [pay7_apply h]
  exact select_or2 Iff.rfl _ _ _

/-- Where no score counts, none counts after the trip. -/
theorem stepS_le (h : ∀ i, s i ≤ lim) (j : S8x768.Idx) : stepS (F := Ideal) v3 v55 v59 v63 v65 s j ≤ lim := by
  unfold stepS k0_pay5
  pointwise
  exact select_le _ Cert.Greedy.low_le (h j)

/-- The row that a trip stores holds the chosen box, where its score counts. -/
theorem rowS_apply {i : S8x768.Idx} (h : Picks (tie v3) s i) (hl : lim < s i) (c : Fin 4) (x : S1x1x128.Idx) (hx : (x 2).val = c.val) :
    rowS (F := Ideal) v3 v55 v59 v63 v65 s x = entryBox v55 v59 v63 v65 i c := by
  unfold rowS
  rw [pay11_eq h, pay12_eq h]
  unfold k0_pay15 k0_pay16
  rw [pay9_eq h, pay10_eq h]
  unfold k0_pay4 k0_pay14 k0_pay3
  rw [pay6_eq h]
  pointwise
  have hl' : Ideal.ofBits .f32 3435052064#32 < s i := hl
  rw [lane _ 0 (by omega) (by omega), lane _ 1 (by omega) (by omega), lane _ 2 (by omega) (by omega), lane _ 3 (by omega) (by omega), hx]
  simp only [hl', decide_true]
  rw [show (Scalar.extui (BitVec.ofBool true) : BitVec 32).toInt = 1 by decide]
  fin_cases c <;> simp [entryBox, k0_pay1] <;> rfl

/-- The row that a trip stores is zero where no score counts. -/
theorem rowS_zero (h : ∀ i, s i ≤ lim) (x : S1x1x128.Idx) : rowS (F := Ideal) v3 v55 v59 v63 v65 s x = 0 := by
  unfold rowS k0_pay4 k0_pay14
  pointwise
  have hl : ¬ Ideal.ofBits .f32 3435052064#32 < k0_pay6 (F := Ideal) s := not_lt.mpr ((pay6_le_iff s _).mpr h)
  simp only [hl, decide_false]
  rw [show (Scalar.extui (BitVec.ofBool false) : BitVec 32).toInt = 0 by decide]
  simp

end Cert.KernelIdeal.Hand

end

end
-- ==== Proof.KerRead.lean ====
/-
  The kernel's arrays before its grid runs, as functions of the arguments.
-/
module

public import proofs.«01_k».proof.Proof.Result
public import proofs.«01_k».proof.Proof.KerStep

@[expose] public section

set_option maxRecDepth 16384

noncomputable section

namespace Cert.KernelIdeal.Hand

open Cert.KernelIdeal Cert.KernelIdeal.Gen
open Idealize.ShloMosaic Idealize.ShloMosaic.TcCoe
open Idealize.ShloMosaic.StableHlo (after afterL)
open Cert.ReferenceIdeal.Hand (takeAt topS topI lift1)

variable {F : FTy → Type} [FloatOps F]

/-- The padded scores, eight by 768 for each image. -/
def padS (s : FVec F S2x6000 .f32) : FVec F S2x8x768 .f32 :=
  shapeCast S2x8x768 (concatenate S2x6144 1 [⟨S2x6000, s⟩, ⟨S2x144, broadcastInDim S2x144 ![] bcast_S_S2x144 (constant S_ .f32 0xCEEE6B28#32)⟩] concatenates_S2x6000_S2x144_S2x6144_d1) shapeCasts_S2x6144_S2x8x768
/-- The padded positions likewise. -/
def padI (i : IVec S2x6000 32) : IVec S2x8x768 32 :=
  shapeCast S2x8x768 (concatenate S2x6144 1 [⟨S2x6000, i⟩, ⟨S2x144, broadcastInDim S2x144 ![] bcast_S_S2x144 (constantI S_ 32 1073741824#32)⟩] concatenates_S2x6000_S2x144_S2x6144_d1) shapeCasts_S2x6144_S2x8x768
/-- The padded rows, with their four coordinates before the places. -/
def padB (d : FVec F S2x6000x4 .f32) : FVec F S2x4x8x768 .f32 :=
  shapeCast S2x4x8x768 (transpose S2x4x6144 [0, 2, 1]
    (concatenate S2x6144x4 1 [⟨S2x6000x4, d⟩, ⟨S2x144x4, broadcastInDim S2x144x4 ![] bcast_S_S2x144x4 (constant S_ .f32 0x00000000#32)⟩] concatenates_S2x6000x4_S2x144x4_S2x6144x4_d1)
    transposes_S2x6144x4_S2x4x6144_0_2_1) shapeCasts_S2x4x6144_S2x4x8x768

/-- The deltas at the chosen positions. -/
theorem read_deltas (V : Valuation τ sig (Elt F)) :
    after hostOps0_1 V (Proc.devRef .tc main_v3) = takeAt (V (Proc.devRef .tc main_arg1)) (V (Proc.devRef .tc main_v2)) := by
  after_reads_simp; rfl

/-- The anchors at the chosen positions. -/
theorem read_anchors (V : Valuation τ sig (Elt F)) :
    after hostOps0_3 V (Proc.devRef .tc main_v5) = takeAt (V (Proc.devRef .tc main_arg2)) (V (Proc.devRef .tc main_v4)) := by
  after_reads_simp; rfl

/-- The padding lines. -/
theorem read_pads (V : Valuation τ sig (Elt F)) :
    after hostOps0_4 V (Proc.devRef .tc main_v8) = padS (V (Proc.devRef .tc main_values))
    ∧ after hostOps0_4 V (Proc.devRef .tc main_v11) = padI (V (Proc.devRef .tc main_indices))
    ∧ after hostOps0_4 V (Proc.devRef .tc main_v15) = padB (V (Proc.devRef .tc main_v5))
    ∧ after hostOps0_4 V (Proc.devRef .tc main_v19) = padB (V (Proc.devRef .tc main_v3)) := by
  refine ⟨?_, ?_, ?_, ?_⟩ <;> after_reads_simp <;> rfl

/-- The four arrays that the grid reads, as functions of the arguments. -/
theorem host_reads (V : Valuation τ sig (Elt F)) :
    after (List.flatten [hostOps0, hostOps0_1, hostOps0_2, hostOps0_3, hostOps0_4]) V (Proc.devRef .tc main_v8) = padS (topS (V (Proc.devRef .tc main_arg0)))
    ∧ after (List.flatten [hostOps0, hostOps0_1, hostOps0_2, hostOps0_3, hostOps0_4]) V (Proc.devRef .tc main_v11) = padI (topI (V (Proc.devRef .tc main_arg0)))
    ∧ after (List.flatten [hostOps0, hostOps0_1, hostOps0_2, hostOps0_3, hostOps0_4]) V (Proc.devRef .tc main_v15)
      = padB (takeAt (V (Proc.devRef .tc main_arg2)) (lift1 (topI (V (Proc.devRef .tc main_arg0)))))
    ∧ after (List.flatten [hostOps0, hostOps0_1, hostOps0_2, hostOps0_3, hostOps0_4]) V (Proc.devRef .tc main_v19)
      = padB (takeAt (V (Proc.devRef .tc main_arg1)) (lift1 (topI (V (Proc.devRef .tc main_arg0))))) := by
  rw [← StableHlo.afterL_eq_after_flatten]
  simp only [StableHlo.afterL_cons, StableHlo.afterL_nil]
  have hv : after hostOps0 V (Proc.devRef .tc main_values) = topS (V (Proc.devRef .tc main_arg0)) := by after_reads_simp; rfl
  have hi : after hostOps0 V (Proc.devRef .tc main_indices) = topI (V (Proc.devRef .tc main_arg0)) := by after_reads_simp; rfl
  have h2 : after hostOps0 V (Proc.devRef .tc main_v2) = lift1 (topI (V (Proc.devRef .tc main_arg0))) := by after_reads_simp; rfl
  have h1 : after hostOps0 V (Proc.devRef .tc main_arg1) = V (Proc.devRef .tc main_arg1) := by after_reads_simp
  have ha : after hostOps0 V (Proc.devRef .tc main_arg2) = V (Proc.devRef .tc main_arg2) := by after_reads_simp
  generalize after hostOps0 V = V1 at hv hi h2 h1 ha ⊢
  have h3 := read_deltas V1
  rw [h1, h2] at h3
  have gv : after hostOps0_1 V1 (Proc.devRef .tc main_values) = topS (V (Proc.devRef .tc main_arg0)) := by after_reads_simp; exact hv
  have gi : after hostOps0_1 V1 (Proc.devRef .tc main_indices) = topI (V (Proc.devRef .tc main_arg0)) := by after_reads_simp; exact hi
  have ga : after hostOps0_1 V1 (Proc.devRef .tc main_arg2) = V (Proc.devRef .tc main_arg2) := by after_reads_simp; exact ha
  clear hv hi h2 h1 ha
  generalize after hostOps0_1 V1 = V2 at h3 gv gi ga ⊢
  have h4 : after hostOps0_2 V2 (Proc.devRef .tc main_v4) = lift1 (topI (V (Proc.devRef .tc main_arg0))) := by after_reads_simp; rw [gi]; rfl
  have g3 : after hostOps0_2 V2 (Proc.devRef .tc main_v3) = V2 (Proc.devRef .tc main_v3) := by after_reads_simp
  have hv : after hostOps0_2 V2 (Proc.devRef .tc main_values) = topS (V (Proc.devRef .tc main_arg0)) := by after_reads_simp; exact gv
  have hi : after hostOps0_2 V2 (Proc.devRef .tc main_indices) = topI (V (Proc.devRef .tc main_arg0)) := by after_reads_simp; exact gi
  have ha : after hostOps0_2 V2 (Proc.devRef .tc main_arg2) = V (Proc.devRef .tc main_arg2) := by after_reads_simp; exact ga
  rw [h3] at g3
  clear h3 gv gi ga
  generalize after hostOps0_2 V2 = V3 at h4 g3 hv hi ha ⊢
  have h5 := read_anchors V3
  rw [ha, h4] at h5
  have h3 : after hostOps0_3 V3 (Proc.devRef .tc main_v3) = V3 (Proc.devRef .tc main_v3) := by after_reads_simp
  have gv : after hostOps0_3 V3 (Proc.devRef .tc main_values) = topS (V (Proc.devRef .tc main_arg0)) := by after_reads_simp; exact hv
  have gi : after hostOps0_3 V3 (Proc.devRef .tc main_indices) = topI (V (Proc.devRef .tc main_arg0)) := by after_reads_simp; exact hi
  rw [g3] at h3
  generalize after hostOps0_3 V3 = V4 at h3 h5 gv gi ⊢
  obtain ⟨r1, r2, r3, r4⟩ := read_pads V4
  rw [gv] at r1; rw [gi] at r2; rw [h5] at r3; rw [h3] at r4
  exact ⟨r1, r2, r3, r4⟩

end Cert.KernelIdeal.Hand

end

end
-- ==== Proof.Blocks.lean ====
/-
  The kernel's blocks at an entry: scores, positions and boxes, off the blocks that the grid hands it, and off the arguments.
-/
module

public import proofs.«01_k».proof.Proof.KerRead

@[expose] public section

set_option maxRecDepth 16384

noncomputable section

namespace Cert.KernelIdeal.Hand

open Cert.KernelIdeal Cert.KernelIdeal.Gen
open Idealize.ShloMosaic Idealize.ShloMosaic.TcCoe
open Cert.ReferenceIdeal.Hand (takeAt topS topI lift1)

/-! ## The padded arrays -/

/-- The padded scores at an index: the score there, or the filling past the six thousand. -/
theorem padS_apply (s : FVec Ideal S2x6000 .f32) (b : Fin 2) (a : Fin 8) (l : Fin 768) :
    padS s (ix3 b a l) = if h : a.val * 768 + l.val < 6000 then s (ix2 b ⟨a.val * 768 + l.val, h⟩) else Ideal.ofBits .f32 0xCEEE6B28#32 := by
  pointwise [padS]
/-- The padded scores at the place of `p`. -/
theorem padS_place (s : FVec Ideal S2x6000 .f32) (b : Fin 2) (a : Fin 8) (l : Fin 768) (p : Fin 6000) (h : a.val * 768 + l.val = p.val) :
    padS s (ix3 b a l) = s (ix2 b p) := by
  obtain ⟨p, hp⟩ := p
  obtain rfl : _ = p := h
  rw [padS_apply]
  exact dif_pos hp
/-- The padded positions at the place of `p`. -/
theorem padI_place (s : IVec S2x6000 32) (b : Fin 2) (a : Fin 8) (l : Fin 768) (p : Fin 6000) (h : a.val * 768 + l.val = p.val) :
    padI s (ix3 b a l) = s (ix2 b p) := by
  obtain ⟨p, hp⟩ := p
  obtain rfl : _ = p := h
  pointwise [padI]
  exact dif_pos hp
/-- The padded rows at the place of `p`. -/
theorem padB_place (s : FVec Ideal S2x6000x4 .f32) (b : Fin 2) (c : Fin 4) (a : Fin 8) (l : Fin 768) (p : Fin 6000) (h : a.val * 768 + l.val = p.val) :
    padB s (ix4 b c a l) = s (ix3 b p c) := by
  obtain ⟨p, hp⟩ := p
  obtain rfl : _ = p := h
  pointwise [padB]
  exact dif_pos hp

/-! ## The blocks -/

/-- The whole block, read at an index. -/
theorem ldW {α : Type} (X : S1x8x768.Idx → α) (a : Fin 8) (l : Fin 768) : X (rectW.idx (ix3 0 a l)) = X (ix3 0 a l) :=
  congrArg X (funext fun d => by fin_cases d <;> exact Fin.ext (by simp [Rect.unit]))
/-- Row 0 of the block, read at an index. -/
theorem ld0 {α : Type} (X : S1x4x8x768.Idx → α) (a : Fin 8) (l : Fin 768) : X (rect0.idx (ix4 0 0 a l)) = X (ix4 0 0 a l) :=
  congrArg X (funext fun d => by fin_cases d <;> exact Fin.ext (by simp [Rect.unit]))
/-- Row 1 likewise. -/
theorem ld1 {α : Type} (X : S1x4x8x768.Idx → α) (a : Fin 8) (l : Fin 768) : X (rect1.idx (ix4 0 0 a l)) = X (ix4 0 1 a l) :=
  congrArg X (funext fun d => by fin_cases d <;> exact Fin.ext (by simp [Rect.unit]))
/-- Row 2 likewise. -/
theorem ld2 {α : Type} (X : S1x4x8x768.Idx → α) (a : Fin 8) (l : Fin 768) : X (rect2.idx (ix4 0 0 a l)) = X (ix4 0 2 a l) :=
  congrArg X (funext fun d => by fin_cases d <;> exact Fin.ext (by simp [Rect.unit]))
/-- Row 3 likewise. -/
theorem ld3 {α : Type} (X : S1x4x8x768.Idx → α) (a : Fin 8) (l : Fin 768) : X (rect3.idx (ix4 0 0 a l)) = X (ix4 0 3 a l) :=
  congrArg X (funext fun d => by fin_cases d <;> exact Fin.ext (by simp [Rect.unit]))

/-- The block's initial score at an entry. -/
theorem blkScore_apply (X : S1x8x768.Idx → EReal) (a : Fin 8) (l : Fin 768) : blkScore (F := Ideal) X (ix2 a l) = X (ix3 0 a l) := by
  pointwise [blkScore, k0_pay17, ldW]
/-- The block's position at an entry. -/
theorem blkTid_apply (X : S1x8x768.Idx → BitVec 32) (a : Fin 8) (l : Fin 768) : blkTid (F := Ideal) X (ix2 a l) = X (ix3 0 a l) := by
  pointwise [blkTid, k0_pay18, ldW]

/-- The box at an entry of the blocks: the anchor's coordinates and the scaled deltas give it. -/
theorem entryBox_apply (X Y : S1x4x8x768.Idx → EReal) (a : Fin 8) (l : Fin 768) :
    entryBox (blkY1 (F := Ideal) X Y) (blkX1 X Y) (blkY2 X Y) (blkX2 X Y) (ix2 a l)
      = Cert.Greedy.corner (fun c => X (ix4 0 c a l)) (fun c => Y (ix4 0 c a l) * Cert.Greedy.scale c) := by
  funext c
  fin_cases c <;> pointwise [entryBox, blkY1, blkX1, blkY2, blkX2, k0_pay19, k0_pay20, k0_pay21, k0_pay22, k0_pay23, k0_pay24, k0_pay25,
    k0_pay26, k0_pay27, k0_pay28, k0_pay29, k0_pay30, k0_pay31, k0_pay32, k0_pay33, k0_pay34, k0_pay35, ld0, ld1, ld2, ld3]
  all_goals rfl

end Cert.KernelIdeal.Hand

end

end
-- ==== Proof.Image.lean ====
/-
  One image: the rows that the kernel's block stores are the reference's chosen boxes, each times whether its score counts.
-/
module

public import proofs.«01_k».proof.Proof.Blocks

@[expose] public section

set_option maxRecDepth 16384

noncomputable section

namespace Cert.ReferenceIdeal.Hand

open Cert.ReferenceIdeal Cert.ReferenceIdeal.Gen
open Idealize.ShloMosaic Idealize.ShloMosaic.TcCoe

/-- The positions that both programs take rows at. -/
theorem lift1_apply (x : FVec Ideal Cert.ReferenceIdeal.S2x261888x2 .f32) (b : Fin 2) (p : Fin 6000) :
    lift1 (topI x) (ix3 b p 0) = BitVec.ofNat 32 (rank (scores x) b p).val := by
  pointwise [lift1]
  exact (topK_apply (scores x) b p).2

/-- A row taken there. -/
theorem taken (x : FVec Ideal Cert.ReferenceIdeal.S2x261888x2 .f32) (d : FVec Ideal Cert.ReferenceIdeal.S2x261888x4 .f32) (b : Fin 2) (p : Fin 6000) (c : Fin 4) :
    takeAt d (lift1 (topI x)) (ix3 b p c) = d (ix3 b (rank (scores x) b p) c) := by
  have hl := lift1_apply x b p
  generalize rank (scores x) b p = r at hl ⊢
  obtain ⟨n, hn⟩ := r
  exact takeAt_apply d _ b p c n hn hl

/-- The mark of a score that counts, and of one that doesn't, as numbers. -/
theorem mark_one : (FloatOps.uitofp (F := Ideal) .f32 (BitVec.ofBool true) : EReal) = 1 := by
  show (((BitVec.ofBool true).toNat : ℝ) : EReal) = 1
  simp
/-- A score that doesn't count is marked by zero. -/
theorem mark_zero : (FloatOps.uitofp (F := Ideal) .f32 (BitVec.ofBool false) : EReal) = 0 := by
  show (((BitVec.ofBool false).toNat : ℝ) : EReal) = 0
  simp

end Cert.ReferenceIdeal.Hand

namespace Cert.KernelIdeal.Hand

open Cert.KernelIdeal Cert.KernelIdeal.Gen
open Idealize.ShloMosaic Idealize.ShloMosaic.TcCoe
open Cert.ReferenceIdeal.Hand
open Cert.Greedy (Picks First Pushes lim low)

/-- The row and the lane of the `p`-th chosen position, and its entry. -/
def rowOf (p : Fin 6000) : Fin 8 := ⟨p.val / 768, by omega⟩
@[inherit_doc rowOf] def laneOf (p : Fin 6000) : Fin 768 := ⟨p.val % 768, Nat.mod_lt _ (by decide)⟩
@[inherit_doc rowOf] def place (p : Fin 6000) : S8x768.Idx := ix2 (rowOf p) (laneOf p)

/-- The row and the lane of a place give the place back. -/
theorem back (p : Fin 6000) : (rowOf p).val * 768 + (laneOf p).val = p.val := by
  show p.val / 768 * 768 + p.val % 768 = p.val
  omega

/-- Different places have different entries. -/
theorem place_injective : Function.Injective place := fun p q h => by
  have h0 : p.val / 768 = q.val / 768 := congrArg Fin.val (congrFun h 0)
  have h1 : p.val % 768 = q.val % 768 := congrArg Fin.val (congrFun h 1)
  exact Fin.ext (by omega)

section

variable (x : FVec Ideal Cert.ReferenceIdeal.S2x261888x2 .f32) (d a : FVec Ideal Cert.ReferenceIdeal.S2x261888x4 .f32) (b : Fin 2)
variable (X0 : S1x8x768.Idx → EReal) (X1 : S1x8x768.Idx → BitVec 32) (X2 X3 : S1x4x8x768.Idx → EReal)

/-- The blocks of image `b`. -/
structure IsBlock : Prop where
  score : ∀ (u : Fin 8) (l : Fin 768), X0 (ix3 0 u l) = padS (topS x) (ix3 b u l)
  id : ∀ (u : Fin 8) (l : Fin 768), X1 (ix3 0 u l) = padI (topI x) (ix3 b u l)
  anchor : ∀ (c : Fin 4) (u : Fin 8) (l : Fin 768), X2 (ix4 0 c u l) = padB (takeAt a (lift1 (topI x))) (ix4 b c u l)
  delta : ∀ (c : Fin 4) (u : Fin 8) (l : Fin 768), X3 (ix4 0 c u l) = padB (takeAt d (lift1 (topI x))) (ix4 b c u l)

variable {x d a b X0 X1 X2 X3} (h : IsBlock x d a b X0 X1 X2 X3)
include h

/-- The initial score at the entry of `p` is the `p`-th score. -/
theorem score_place (p : Fin 6000) : blkScore (F := Ideal) X0 (place p) = topS x (ix2 b p) := by
  unfold place
  rw [blkScore_apply, h.score, padS_place _ _ (rowOf p) (laneOf p) p (back p)]

/-- No other entry has a score that counts. -/
theorem score_pad (i : S8x768.Idx) (hi : ∀ p, i ≠ place p) : blkScore (F := Ideal) X0 i ≤ lim := by
  obtain ⟨u, l, rfl⟩ : ∃ (u : Fin 8) (l : Fin 768), i = ix2 u l := ⟨i 0, i 1, (ix2_eta i).symm⟩
  rw [blkScore_apply, h.score, padS_apply, dif_neg]
  · exact Cert.Greedy.pad_le
  · intro hp
    have hu := u.isLt
    have hl := l.isLt
    have h0 : rowOf ⟨u.val * 768 + l.val, hp⟩ = u := Fin.ext (by simp only [rowOf]; omega)
    have h1 : laneOf ⟨u.val * 768 + l.val, hp⟩ = l := Fin.ext (by simp only [laneOf]; omega)
    exact hi ⟨u.val * 768 + l.val, hp⟩ (by rw [place, h0, h1])

/-- The tie number at the entry of `p` is the original position of the `p`-th score. -/
theorem tie_place (p : Fin 6000) : tie (blkTid (F := Ideal) X1) (place p) = (rank (scores x) b p).val := by
  unfold place tie
  rw [blkTid_apply, h.id, padI_place _ _ (rowOf p) (laneOf p) p (back p)]
  exact (congrArg BitVec.toInt (topK_apply (scores x) b p).2).trans (toInt_ofNat (rank (scores x) b p).isLt (by decide))

/-- The box at the entry of `p` is the `p`-th box. -/
theorem box_place (p : Fin 6000) : entryBox (blkY1 (F := Ideal) X2 X3) (blkX1 X2 X3) (blkY2 X2 X3) (blkX2 X2 X3) (place p)
    = boxAt (chosenB x d a) b p := by
  unfold place
  rw [entryBox_apply]
  funext c
  unfold boxAt chosenB chosenD chosenA
  rw [boxes_apply]
  refine congrFun (congrArg₂ Cert.Greedy.corner (funext fun f => ?_) (funext fun f => ?_)) c
  · rw [h.anchor, padB_place _ _ _ (rowOf p) (laneOf p) p (back p)]
  · rw [h.delta, padB_place _ _ _ (rowOf p) (laneOf p) p (back p), taken, taken, scaled_apply]

/-- Before trip `k` both sides choose the same place while some score counts, and none counts on either side afterwards. -/
theorem same_choice (k : ℕ) :
    (∃ q, lim < scoreAt (chosenB x d a) (topS x) k (ix2 b q) ∧ First (fun p => scoreAt (chosenB x d a) (topS x) k (ix2 b p)) q
      ∧ lim < scoresAt (F := Ideal) (blkTid (F := Ideal) X1) (blkY1 X2 X3) (blkX1 X2 X3) (blkY2 X2 X3) (blkX2 X2 X3) (blkScore X0) k (place q)
      ∧ Picks (tie (blkTid (F := Ideal) X1)) (scoresAt (F := Ideal) (blkTid (F := Ideal) X1) (blkY1 X2 X3) (blkX1 X2 X3) (blkY2 X2 X3) (blkX2 X2 X3) (blkScore X0) k) (place q))
    ∨ ((∀ i, scoresAt (F := Ideal) (blkTid (F := Ideal) X1) (blkY1 X2 X3) (blkX1 X2 X3) (blkY2 X2 X3) (blkX2 X2 X3) (blkScore X0) k i ≤ lim)
      ∧ ∀ p, scoreAt (chosenB x d a) (topS x) k (ix2 b p) ≤ lim) := by
  classical
  refine Cert.Greedy.sim (by decide) place place_injective (tie (blkTid (F := Ideal) X1)) lim low Cert.Greedy.low_le
    (scoresAt (F := Ideal) (blkTid (F := Ideal) X1) (blkY1 X2 X3) (blkX1 X2 X3) (blkY2 X2 X3) (blkX2 X2 X3) (blkScore X0))
    (fun k p => scoreAt (chosenB x d a) (topS x) k (ix2 b p))
    (fun i j => Pushes (entryBox (blkY1 (F := Ideal) X2 X3) (blkX1 X2 X3) (blkY2 X2 X3) (blkX2 X2 X3) i) (entryBox (blkY1 (F := Ideal) X2 X3) (blkX1 X2 X3) (blkY2 X2 X3) (blkX2 X2 X3) j))
    (fun q p => Pushes (boxAt (chosenB x d a) b q) (boxAt (chosenB x d a) b p)) ?_ ?_ ?_ ?_ ?_ ?_ ?_ ?_ k
  · intro q p; rw [box_place h, box_place h]
  · intro k i hi j
    refine (stepS_apply _ _ _ _ _ _ hi j).trans ?_
    congr
  · intro k hk i
    exact stepS_le _ _ _ _ _ _ hk i
  · intro k q hl hq p
    obtain ⟨q', hq', hu⟩ := bestAt_spec (scoreAt (chosenB x d a) (topS x) k) b
    obtain rfl := hu q hq (Cert.Greedy.bot_lt.trans hl)
    refine (nextS_apply _ _ b p q' hq').trans ?_
    congr
  · intro k hk p
    obtain ⟨q', hq', -⟩ := bestAt_spec (scoreAt (chosenB x d a) (topS x) k) b
    refine (nextS_apply _ _ b p q' hq').trans_le ?_
    split
    · exact Cert.Greedy.low_le
    · exact hk p
  · exact score_place h
  · exact score_pad h
  · intro p q hpq hs
    rw [tie_place h, tie_place h]
    have hr : scores x (ix2 b (rank (scores x) b p)) = scores x (ix2 b (rank (scores x) b q)) :=
      ((topK_apply (scores x) b p).1.symm.trans hs).trans (topK_apply (scores x) b q).1
    exact_mod_cast rank_lt (scores x) b p q hpq hr

/-- The row of trip `k` at a coordinate: the box chosen there, times whether its score counts. -/
theorem row_image (k : ℕ) (c : Fin 4) (y : S1x1x128.Idx) (hy : (y 2).val = c.val) :
    ∃ q : Fin 6000, bestAt (scoreAt (chosenB x d a) (topS x) k) (ix1 b) = BitVec.ofNat 32 q.val
      ∧ blkRows (F := Ideal) X0 X1 X2 X3 k y
        = chosenB x d a (ix3 b q c) * FloatOps.uitofp (F := Ideal) .f32 (okAt (scoreAt (chosenB x d a) (topS x) k) (ix2 b 0)) := by
  obtain ⟨q, hq, hu⟩ := bestAt_spec (scoreAt (chosenB x d a) (topS x) k) b
  refine ⟨q, hq, ?_⟩
  rw [okAt_apply _ b q hq]
  unfold blkRows
  rcases same_choice h k with ⟨q', hl, hF, hS, hP⟩ | ⟨hS, hs⟩
  · obtain rfl := hu q' hF (Cert.Greedy.bot_lt.trans hl)
    rw [rowS_apply _ _ _ _ _ _ hP hS c y hy, box_place h]
    rw [decide_eq_true hl, mark_one, mul_one]
    rfl
  · rw [rowS_zero _ _ _ _ _ _ hS y, decide_eq_false (not_lt.mpr (hs q)), mark_zero, mul_zero]

end

end Cert.KernelIdeal.Hand

end

end
-- ==== Proof.Frames.lean ====
/-
  The frames: each of the three programs runs, leaves its arguments as they were, and ends with every counter at zero.
-/
module

public import proofs.«01_k».proof.Defs
public import proofs.«01_k».proof.Proof.Result
public import proofs.«01_k».proof.Proof.RefRun
public import proofs.«01_k».proof.Proof.Gen.Kernel
public import proofs.«01_k».proof.Proof.Gen.Kernel.Launch

@[expose] public section

set_option maxRecDepth 16384

noncomputable section

namespace Cert.Proof

open Idealize.ShloMosaic Idealize.ShloMosaic.TcCoe Idealize.SL.Sem

/-- The kernel over any floats keeps its arguments and ends with every counter at zero. -/
theorem kept {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run (Cert.KernelIdeal.defs (F := F)) _ _).mono
    (fun _ h => ⟨fun c => ⟨Cert.KernelIdeal.Hand.final_arg0 (h.1 c), Cert.KernelIdeal.Hand.final_arg1 (h.1 c), Cert.KernelIdeal.Hand.final_arg2 (h.1 c)⟩, h.2⟩)
    (Cert.KernelIdeal.Hand.run_final (F := F) m ρ)

set_option maxHeartbeats 1000000 in
/-- The two printings of the kernel have the same region body. -/
theorem defs₀_eq : Cert.Kernel.defs₀ (F := Bits) = Cert.KernelIdeal.defs₀ (F := Bits) :=
  congrArg Defs.onTc (funext fun l => funext fun x => match l, x with
    | 0, (t, s) => rfl
    | ⟨_ + 1, h⟩, _ => absurd h (Nat.not_lt.2 (Nat.le_add_left _ _)))

set_option maxHeartbeats 1000000 in
/-- … and the same labels' bodies. -/
theorem defs_eq : Cert.Kernel.defs (F := Bits) = Cert.KernelIdeal.defs (F := Bits) :=
  congrArg (Pipeline.defs Cert.KernelIdeal.pcfgs) defs₀_eq

set_option maxHeartbeats 1000000 in
/-- … and the same host program. -/
theorem main_eq : Cert.Kernel.main (F := Bits) = Cert.KernelIdeal.main (F := Bits) := by
  funext c
  rw [Cert.Kernel.Gen.main_chain, Cert.KernelIdeal.Gen.main_chain]
  rfl

set_option maxHeartbeats 1000000 in
/-- The kernel at machine floats: the same text as the idealised one, so the run over any floats serves. -/
theorem frame_kernel : Cert.quiescent_Kernel := fun m ρ _ => by
  rw [defs_eq, main_eq]
  exact kept (F := Bits) m ρ

/-- The kernel at extended reals. -/
theorem frame_kernelIdeal : Cert.quiescent_KernelIdeal := fun m ρ _ => kept (F := Ideal) m ρ

/-- The reference at extended reals. -/
theorem frame_referenceIdeal : Cert.quiescent_ReferenceIdeal := fun m ρ _ =>
  (θ_run (Cert.ReferenceIdeal.defs (F := Ideal)) _ _).mono
    (fun _ h => ⟨fun c =>
      have a := Cert.ReferenceIdeal.Hand.final_args (StableHlo.launchContents m c)
      ⟨(h.1 c _ rfl).trans a.1, (h.1 c _ rfl).trans a.2.1, (h.1 c _ rfl).trans a.2.2⟩, h.2⟩)
    (Cert.ReferenceIdeal.Hand.run_final (F := Ideal) m ρ)

end Cert.Proof

end

end
-- ==== Proof.Algebraic.lean ====
/-
  The kernel and the reference end with the same result, from the same arguments.
-/
module

public import proofs.«01_k».proof.Proof.Image
public import proofs.«01_k».proof.Proof.Frames

@[expose] public section

set_option maxRecDepth 16384

noncomputable section

/-! ## The kernel's blocks -/

namespace Cert.KernelIdeal.Hand

open Cert.KernelIdeal Cert.KernelIdeal.Gen
open Idealize.ShloMosaic Idealize.ShloMosaic.TcCoe

/-- The blocks that the grid hands its point `t` are those of image `t`. -/
theorem isBlock (m : (ℓ : Loc nD τ sig) → Buf (Elt Ideal) ℓ) (c : Dev nD) (t : Fin cfg0.N) (b : Fin 2) (h : b.val = t.val) :
    IsBlock (m ((c.tc : Thread nD τ).loc main_arg0)) (m ((c.tc : Thread nD τ).loc main_arg1)) (m ((c.tc : Thread nD τ).loc main_arg2)) b
      (iblk m c 0 t) (iblk m c 1 t) (iblk m c 2 t) (iblk m c 3 t) := by
  obtain ⟨r0, r1, r2, r3⟩ := host_reads (F := Ideal) (fun b => m (c, b))
  exact ⟨fun u l => (iblk_0 m c t (ix3 0 u l) (ix3 b u l) h rfl rfl).trans (congrFun r0 _),
    fun u l => (iblk_1 m c t (ix3 0 u l) (ix3 b u l) h rfl rfl).trans (congrFun r1 _),
    fun e u l => (iblk_2 m c t (ix4 0 e u l) (ix4 b e u l) h rfl rfl rfl).trans (congrFun r2 _),
    fun e u l => (iblk_3 m c t (ix4 0 e u l) (ix4 b e u l) h rfl rfl rfl).trans (congrFun r3 _)⟩

end Cert.KernelIdeal.Hand

/-! ## The reference's result -/

namespace Cert.ReferenceIdeal.Hand

open Cert.ReferenceIdeal Cert.ReferenceIdeal.Gen
open Idealize.ShloMosaic Idealize.ShloMosaic.TcCoe

/-- The reference's result at an index: the box chosen at that trip, times whether its score counts. -/
theorem final_apply (V : Valuation τ sig (Elt Ideal)) (x : FVec Ideal S2x261888x2 .f32) (d a : FVec Ideal S2x261888x4 .f32)
    (hx : V (Proc.devRef .tc main_arg0) = x) (hd : V (Proc.devRef .tc main_arg1) = d) (ha : V (Proc.devRef .tc main_arg2) = a)
    (b : Fin 2) (k : Fin 1000) (c : Fin 4) (q : Fin 6000)
    (hq : bestAt (scoreAt (chosenB x d a) (topS x) k.val) (ix1 b) = BitVec.ofNat 32 q.val) :
    (final V (Proc.devRef .tc main_v74) : S2x1000x4.Idx → EReal) (ix3 b k c)
      = chosenB x d a (ix3 b q c) * FloatOps.uitofp (F := Ideal) .f32 (okAt (scoreAt (chosenB x d a) (topS x) k.val) (ix2 b 0)) := by
  obtain ⟨h61, h0, h2⟩ := entry_reads V
  rw [hx, hd, ha] at h61 h0
  rw [hx] at h2
  have hp := fun n => atK_puts V (chosenB x d a) (topS x) h61 h0 h2 n
  have h3 := puts_apply (fun n => atK (entry V) n (Proc.devRef .tc main_v64_3)) (fun n => pos (scoreAt (chosenB x d a) (topS x) n)) (fun n => (hp n).1) b k 1000 le_rfl k.isLt
  have h4 := puts_apply (fun n => atK (entry V) n (Proc.devRef .tc main_v64_4)) (fun n => okAt (scoreAt (chosenB x d a) (topS x) n)) (fun n => (hp n).2) b k 1000 le_rfl k.isLt
  obtain ⟨g61, -, -⟩ := atK_reads (entry V) (chosenB x d a) (topS x) h61 h0 h2 1000
  unfold final
  rw [ending_reads, g61]
  refine (result_apply _ _ _ b k c q (h3.trans ?_)).trans ?_
  · pointwise [pos]; exact hq
  · exact congrArg (fun w => chosenB x d a (ix3 b q c) * FloatOps.uitofp (F := Ideal) .f32 w) h4

end Cert.ReferenceIdeal.Hand

/-! ## The two together -/

namespace Cert.Proof

open Idealize.ShloMosaic Idealize.ShloMosaic.TcCoe Idealize.SL.Sem

/-- The kernel's result is the reference's. -/
theorem same_result (m : (ℓ : Loc Cert.KernelIdeal.nD Cert.KernelIdeal.τ Cert.KernelIdeal.sig) → Buf (Elt Ideal) ℓ) (c : Dev Cert.KernelIdeal.nD)
    (s : MemSt Cert.KernelIdeal.nD Cert.KernelIdeal.τ Cert.KernelIdeal.sig (Elt Ideal)) (hs : Cert.KernelIdeal.Hand.Final m c s)
    (V : Valuation Cert.ReferenceIdeal.τ Cert.ReferenceIdeal.sig (Elt Ideal))
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2)) :
    (s.mem ((c.tc : Thread Cert.KernelIdeal.nD Cert.KernelIdeal.τ).loc Cert.KernelIdeal.main_v21) : Cert.KernelIdeal.S2x1000x4.Idx → EReal)
      = (Cert.ReferenceIdeal.Hand.final V (Proc.devRef .tc Cert.ReferenceIdeal.main_v74) : Cert.ReferenceIdeal.S2x1000x4.Idx → EReal) := by
  funext j
  obtain ⟨b, k, e, rfl⟩ : ∃ (b : Fin 2) (k : Fin 1000) (e : Fin 4), j = ix3 b k e := ⟨j 0, j 1, j 2, (ix3_eta j).symm⟩
  have hN : b.val < Cert.KernelIdeal.cfg0.N := b.isLt
  let t : Fin Cert.KernelIdeal.cfg0.N := ⟨b.val, hN⟩
  let y : Cert.KernelIdeal.S1x1x128.Idx := ix3 0 0 ⟨e.val, by omega⟩
  obtain ⟨q, hq, hr⟩ := Cert.KernelIdeal.Hand.row_image (Cert.KernelIdeal.Hand.isBlock m c t b rfl) k.val e y rfl
  refine (Cert.KernelIdeal.Hand.final_result hs (ix3 b k e) t y rfl rfl).trans ?_
  exact hr.trans (Cert.ReferenceIdeal.Hand.final_apply V _ _ _ h0 h1 h2 b k e q hq).symm

/-- From memories that agree on the arguments both programs run and end with equal results, their arguments as they were. -/
theorem algebraic : Cert.algebraic_KernelIdeal_ReferenceIdeal := fun m g m' g' _ hm =>
  ⟨fun c => Cert.ReferenceIdeal.Hand.final (StableHlo.launchContents m' c) (Proc.devRef .tc Cert.ReferenceIdeal.main_v74),
    (θ_run (Cert.KernelIdeal.defs (F := Ideal)) _ _).mono
      (fun r h c => ⟨same_result m c r.2 (h.1 c) (StableHlo.launchContents m' c) (hm c).1 (hm c).2.1 (hm c).2.2,
        Cert.KernelIdeal.Hand.final_arg0 (h.1 c), Cert.KernelIdeal.Hand.final_arg1 (h.1 c), Cert.KernelIdeal.Hand.final_arg2 (h.1 c)⟩)
      (Cert.KernelIdeal.Hand.run_final (F := Ideal) m g),
    (θ_run (Cert.ReferenceIdeal.defs (F := Ideal)) _ _).mono
      (fun r h c =>
        have a := Cert.ReferenceIdeal.Hand.final_args (StableHlo.launchContents m' c)
        ⟨h.1 c _ rfl, (h.1 c _ rfl).trans a.1, (h.1 c _ rfl).trans a.2.1, (h.1 c _ rfl).trans a.2.2⟩)
      (Cert.ReferenceIdeal.Hand.run_final (F := Ideal) m' g')⟩

end Cert.Proof

end

end
-- ==== Proof.lean ====
/- The proof of the claim: each conjunct by its own module's theorem. -/
module

public import proofs.«01_k».proof.Defs
public import proofs.«01_k».proof.Proof.Algebraic

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
